-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![2, 256, 256]⟩ ⟨3, ![2, 1024, 256]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 256]⟩ ⟨3, ![2, 1024, 256]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v58) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S512x512 : Shape := ⟨2, ![512, 512]⟩
abbrev S512x256 : Shape := ⟨2, ![512, 256]⟩
abbrev S2x256x256 : Shape := ⟨3, ![2, 256, 256]⟩
abbrev S256x512 : Shape := ⟨2, ![256, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_

variable [Facts]

def fn {F : FTy → Type} [FloatOps F] (main_arg0 : FVec F S512x512 .bf16) (main_arg1 : FVec F S512x256 .bf16) (main_arg2 : FVec F S2x256x256 .bf16) (main_arg3 : FVec F S2x256x256 .bf16) (main_arg4 : FVec F S256x512 .bf16) : IVec S_ 1 :=
  let main_v0 : FVec F S512x512 .bf16 := Host.absf main_arg0
  let main_cst : FVec F S_ .bf16 := constant S_ .bf16 0x7F80#16
  let main_v1 : FVec F S512x512 .bf16 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x256 .bf16 := Host.absf main_arg2
  let main_cst_2 : FVec F S_ .bf16 := constant S_ .bf16 0x7F80#16
  let main_v10 : FVec F S2x256x256 .bf16 := broadcastInDim S2x256x256 ![] bcast_S_S2x256x256 main_cst_2
  let main_v11 : IVec S2x256x256 1 := cmpf .olt main_v9 main_v10
  let main_c_3 : IVec S_ 1 := constantI S_ 1 1#1
  let main_v12 : IVec S_ 1 := (fun x v => Host.reduce IntOp.andi x v reducesTo_S2x256x256_S_d0_1_2 h_S_) main_v11 main_c_3
  let main_v13 : IVec S_ 1 := andi main_v8 main_v12
  main_v13
-- ==== Pre_finite_scores_ReferenceIdeal.lean ====
abbrev S512x512 : Shape := ⟨2, ![512, 512]⟩
abbrev S512x256 : Shape := ⟨2, ![512, 256]⟩
abbrev S2x1024x256 : Shape := ⟨3, ![2, 1024, 256]⟩
abbrev S256x512 : Shape := ⟨2, ![256, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S2x1024x256 : S_.BroadcastsInDim S2x1024x256 (![] : Fin 0 → Fin S2x1024x256.rank)
  reducesTo_S2x1024x256_S_d0_1_2 : S2x1024x256.ReducesTo [0, 1, 2] S_

variable [Facts]

def fn {F : FTy → Type} [FloatOps F] (main_arg0 : FVec F S512x512 .bf16) (main_arg1 : FVec F S512x256 .bf16) (main_arg2 : FVec F S2x1024x256 .bf16) (main_arg3 : FVec F S2x1024x256 .bf16) (main_arg4 : FVec F S256x512 .bf16) : IVec S_ 1 :=
  let main_v0 : FVec F S512x512 .bf16 := Host.absf main_arg0
  let main_cst : FVec F S_ .bf16 := constant S_ .bf16 0x7F80#16
  let main_v1 : FVec F S512x512 .bf16 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x1024x256 .bf16 := Host.absf main_arg2
  let main_cst_2 : FVec F S_ .bf16 := constant S_ .bf16 0x7F80#16
  let main_v10 : FVec F S2x1024x256 .bf16 := broadcastInDim S2x1024x256 ![] bcast_S_S2x1024x256 main_cst_2
  let main_v11 : IVec S2x1024x256 1 := cmpf .olt main_v9 main_v10
  let main_c_3 : IVec S_ 1 := constantI S_ 1 1#1
  let main_v12 : IVec S_ 1 := (fun x v => Host.reduce IntOp.andi x v reducesTo_S2x1024x256_S_d0_1_2 h_S_) main_v11 main_c_3
  let main_v13 : IVec S_ 1 := andi main_v8 main_v12
  main_v13
-- ==== Kernel.lean ====
abbrev S512x512 : Shape := ⟨2, ![512, 512]⟩
abbrev S512x256 : Shape := ⟨2, ![512, 256]⟩
abbrev S2x256x256 : Shape := ⟨3, ![2, 256, 256]⟩
abbrev S256x512 : Shape := ⟨2, ![256, 512]⟩
abbrev S2x260x256 : Shape := ⟨3, ![2, 260, 256]⟩
abbrev S2 : Shape := ⟨1, ![2]⟩
abbrev S_ : Shape := ⟨0, ![]⟩
abbrev S256x256 : Shape := ⟨2, ![256, 256]⟩
abbrev S1x256 : Shape := ⟨2, ![1, 256]⟩
abbrev S1x256x256 : Shape := ⟨3, ![1, 256, 256]⟩
abbrev S256x64 : Shape := ⟨2, ![256, 64]⟩
abbrev S1x256x64 : Shape := ⟨3, ![1, 256, 64]⟩
abbrev S1x1x256 : Shape := ⟨3, ![1, 1, 256]⟩
abbrev S1x2x256 : Shape := ⟨3, ![1, 2, 256]⟩
abbrev S1 : Shape := ⟨1, ![1]⟩
abbrev S1x260x256 : Shape := ⟨3, ![1, 260, 256]⟩
abbrev S260x256 : Shape := ⟨2, ![260, 256]⟩
abbrev S4x256 : Shape := ⟨2, ![4, 256]⟩
abbrev S256x4 : Shape := ⟨2, ![256, 4]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S512x512, .bf16⟩
  | .hbm, ⟨1, _⟩ => ⟨S512x256, .bf16⟩
  | .hbm, ⟨2, _⟩ => ⟨S2x256x256, .bf16⟩
  | .hbm, ⟨3, _⟩ => ⟨S2x256x256, .bf16⟩
  | .hbm, ⟨4, _⟩ => ⟨S256x512, .bf16⟩
  | .hbm, ⟨5, _⟩ => ⟨S512x512, .bf16⟩
  | .local _ .vmem, ⟨0, _⟩ => ⟨S512x512, .bf16⟩
  | .local _ .vmem, ⟨1, _⟩ => ⟨S512x256, .bf16⟩
  | .local _ .vmem, ⟨2, _⟩ => ⟨S2x256x256, .bf16⟩
  | .local _ .vmem, ⟨3, _⟩ => ⟨S2x256x256, .bf16⟩
  | .local _ .vmem, ⟨4, _⟩ => ⟨S256x512, .bf16⟩
  | .local _ .vmem, ⟨5, _⟩ => ⟨S512x512, .bf16⟩
  | .local _ .vmem, ⟨6, _⟩ => ⟨S2x260x256, .bf16⟩
  | .local _ .vmem, ⟨7, _⟩ => ⟨S2x260x256, .bf16⟩
  | .local _ .vmem, ⟨8, _⟩ => ⟨S2x260x256, .bf16⟩
  | .local _ .vmem, ⟨9, _⟩ => ⟨S2x260x256, .bf16⟩
  | .local _ .vmem, ⟨10, _⟩ => ⟨S512x256, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_71 : BitVec 32 := 1#32
  let v158 : BitVec 32 := Scalar.muli v3 c1_i32_71
  let v159 : BitVec 32 := Scalar.addi c0_i32_72 v158
  v159.toNat
def k0_dev4 (d0 : Dev nD) : Nat :=
  let c0_i32_131 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_130 : BitVec 32 := 1#32
  let v250 : BitVec 32 := Scalar.muli v4 c1_i32_130
  let v251 : BitVec 32 := Scalar.addi c0_i32_131 v250
  v251.toNat
def k0_dev5 (d0 : Dev nD) : Nat :=
  let c0_i32_162 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_161 : BitVec 32 := 1#32
  let v283 : BitVec 32 := Scalar.muli v4 c1_i32_161
  let v284 : BitVec 32 := Scalar.addi c0_i32_162 v283
  v284.toNat
def k0_dev6 (d0 : Dev nD) : Nat :=
  let c0_i32_191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_190 : BitVec 32 := 1#32
  let v309 : BitVec 32 := Scalar.muli v3 c1_i32_190
  let v310 : BitVec 32 := Scalar.addi c0_i32_191 v309
  v310.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x512 : Shape := ⟨2, ![512, 512]⟩
abbrev S512x256 : Shape := ⟨2, ![512, 256]⟩
abbrev S2x1024x256 : Shape := ⟨3, ![2, 1024, 256]⟩
abbrev S256x512 : Shape := ⟨2, ![256, 512]⟩
abbrev S2x256x512 : Shape := ⟨3, ![2, 256, 512]⟩
abbrev S2x1024x4x64 : Shape := ⟨4, ![2, 1024, 4, 64]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S2x4x256x1024 : Shape := ⟨4, ![2, 4, 256, 1024]⟩
abbrev S1x1x256x1024 : Shape := ⟨4, ![1, 1, 256, 1024]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 137
  | .vmem => 0
  | .smem => 0
  | _ => 0

abbrev hbmTy0_0 (i : Nat) : BufTy := match i % 128 with
  | 0 => ⟨S512x512, .bf16⟩
  | 1 => ⟨S512x256, .bf16⟩
  | 2 => ⟨S2x1024x256, .bf16⟩
  | 3 => ⟨S2x1024x256, .bf16⟩
  | 4 => ⟨S256x512, .bf16⟩
  | 5 => ⟨S2x256x512, .bf16⟩
  | 6 => ⟨S2x256x512, .f32⟩
  | 7 => ⟨S2x1024x256, .f32⟩
  | 8 => ⟨S2x1024x4x64, .f32⟩
  | 9 => ⟨S2x1024x256, .f32⟩
  | 10 => ⟨S2x1024x4x64, .f32⟩
  | 11 => ⟨S512x256, .f32⟩
  | 12 => ⟨S2x256x256, .f32⟩
  | 13 => ⟨S2x256x256, .bf16⟩
  | 14 => ⟨S2x256x4x64, .bf16⟩
  | 15 => ⟨S256, .i32⟩
  | 16 => ⟨S_, .i32⟩
  | 17 => ⟨S_, .i32⟩
  | 18 => ⟨S256, .i32⟩
  | 19 => ⟨S256, .i32⟩
  | 20 => ⟨S256, .i32⟩
  | 21 => ⟨S_, .i32⟩
  | 22 => ⟨S256, .i32⟩
  | 23 => ⟨S256, .i1⟩
  | 24 => ⟨S256, .i32⟩
  | 25 => ⟨S256, .i32⟩
  | 26 => ⟨S_, .i32⟩
  | 27 => ⟨S256, .i32⟩
  | 28 => ⟨S256, .i1⟩
  | 29 => ⟨S256, .i1⟩
  | 30 => ⟨S_, .i32⟩
  | 31 => ⟨S256, .i32⟩
  | 32 => ⟨S256, .i32⟩
  | 33 => ⟨S256, .i32⟩
  | 34 => ⟨S256x1, .i32⟩
  | 35 => ⟨S1024, .i32⟩
  | 36 => ⟨S_, .i32⟩
  | 37 => ⟨S_, .i32⟩
  | 38 => ⟨S1024, .i32⟩
  | 39 => ⟨S1024, .i32⟩
  | 40 => ⟨S1024, .i32⟩
  | 41 => ⟨S_, .i32⟩
  | 42 => ⟨S1024, .i32⟩
  | 43 => ⟨S1024, .i1⟩
  | 44 => ⟨S1024, .i32⟩
  | 45 => ⟨S1024, .i32⟩
  | 46 => ⟨S_, .i32⟩
  | 47 => ⟨S1024, .i32⟩
  | 48 => ⟨S1024, .i1⟩
  | 49 => ⟨S1024, .i1⟩
  | 50 => ⟨S_, .i32⟩
  | 51 => ⟨S1024, .i32⟩
  | 52 => ⟨S1024, .i32⟩
  | 53 => ⟨S1024, .i32⟩
  | 54 => ⟨S1x1024, .i32⟩
  | 55 => ⟨S256x1024, .i32⟩
  | 56 => ⟨S256x1024, .i32⟩
  | 57 => ⟨S256x1024, .i1⟩
  | 58 => ⟨S_, .i32⟩
  | 59 => ⟨S1x1024, .i32⟩
  | 60 => ⟨S1x1024, .i1⟩
  | 61 => ⟨S256x1024, .i1⟩
  | 62 => ⟨S256x1024, .i1⟩
  | 63 => ⟨S256x1024, .i32⟩
  | 64 => ⟨S256x1024, .i32⟩
  | 65 => ⟨S256x1024, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S256x1024, .i32⟩
  | 73 => ⟨S256x1024, .i32⟩
  | 74 => ⟨S_, .i32⟩
  | 75 => ⟨S256x1024, .i32⟩
  | 76 => ⟨S256x1024, .i1⟩
  | 77 => ⟨S_, .i32⟩
  | 78 => ⟨S256x1024, .i32⟩
  | 79 => ⟨S256x1024, .i1⟩
  | 80 => ⟨S_, .i32⟩
  | 81 => ⟨S_, .i1⟩
  | 82 => ⟨S256x1024, .i1⟩
  | 83 => ⟨S256x1024, .i1⟩
  | 84 => ⟨S256x1024, .i1⟩
  | 85 => ⟨S256x1024, .i32⟩
  | 86 => ⟨S256x1024, .i32⟩
  | 87 => ⟨S256x1024, .i32⟩
  | 88 => ⟨S_, .i32⟩
  | 89 => ⟨S256x1024, .i32⟩
  | 90 => ⟨S256x1024, .i1⟩
  | 91 => ⟨S256x1024, .i1⟩
  | 92 => ⟨S2x256x4x64, .f32⟩
  | 93 => ⟨S2x4x256x1024, .f32⟩
  | 94 => ⟨S2x4x256x1024, .bf16⟩
  | 95 => ⟨S2x4x256x1024, .f32⟩
  | 96 => ⟨S_, .f32⟩
  | 97 => ⟨S2x4x256x1024, .f32⟩
  | 98 => ⟨S2x4x256x1024, .f32⟩
  | 99 => ⟨S1x1x256x1024, .i1⟩
  | 100 => ⟨S_, .f32⟩
  | 101 => ⟨S_, .f32⟩
  | 102 => ⟨S2x4x256x1024, .i1⟩
  | 103 => ⟨S2x4x256x1024, .f32⟩
  | 104 => ⟨S2x4x256x1024, .f32⟩
  | 105 => ⟨S_, .f32⟩
  | 106 => ⟨S2x4x256, .f32⟩
  | 107 => ⟨S2x4x256x1, .f32⟩
  | 108 => ⟨S2x4x256x1024, .f32⟩
  | 109 => ⟨S2x4x256x1024, .f32⟩
  | 110 => ⟨S2x4x256x1024, .f32⟩
  | 111 => ⟨S_, .i1⟩
  | 112 => ⟨S256, .i1⟩
  | 113 => ⟨S1x1x256x1, .i1⟩
  | 114 => ⟨S_, .f32⟩
  | 115 => ⟨S2x4x256, .f32⟩
  | 116 => ⟨S2x4x256x1, .f32⟩
  | 117 => ⟨S_, .f32⟩
  | 118 => ⟨S_, .f32⟩
  | 119 => ⟨S2x4x256x1, .i1⟩
  | 120 => ⟨S2x4x256x1, .f32⟩
  | 121 => ⟨S2x4x256x1, .f32⟩
  | 122 => ⟨S2x4x256x1024, .f32⟩
  | 123 => ⟨S2x4x256x1024, .f32⟩
  | 124 => ⟨S1x1x256x1, .i1⟩
  | 125 => ⟨S_, .f32⟩
  | 126 => ⟨S_, .f32⟩
  | 127 => ⟨S2x4x256x1024, .i1⟩
  | _ => ⟨S512x512, .bf16⟩

abbrev hbmTy0_1 (i : Nat) : BufTy := match i % 128 with
  | 0 => ⟨S2x4x256x1024, .f32⟩
  | 1 => ⟨S2x4x256x1024, .f32⟩
  | 2 => ⟨S2x4x64x256, .f32⟩
  | 3 => ⟨S2x256x4x64, .f32⟩
  | 4 => ⟨S2x256x256, .f32⟩
  | 5 => ⟨S256x512, .f32⟩
  | 6 => ⟨S2x256x512, .f32⟩
  | 7 => ⟨S2x256x512, .bf16⟩
  | 8 => ⟨S512x512, .bf16⟩
  | _ => ⟨S512x512, .bf16⟩

abbrev hbmTy (i : Nat) : BufTy := match i / 128 with
  | 0 => hbmTy0_0 i
  | 1 => hbmTy0_1 i
  | _ => ⟨S512x512, .bf16⟩

abbrev bufTy : (tb : Table) → Fin (tcTables nBuf tb) → BufTy
  | .hbm, ⟨i, _⟩ => hbmTy i
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_c_1 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_c_2 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_v5 : Ref sig .tc := ⟨.hbm, 75, rfl⟩
abbrev main_call2_v6 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_c_3 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v26 : Ref sig .tc := ⟨.hbm, 87, rfl⟩
abbrev main_c_3 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_4 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v37 : Ref sig .tc := ⟨.hbm, 104, rfl⟩
abbrev main_cst_5 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_c_6 : Ref sig .tc := ⟨.hbm, 111, rfl⟩
abbrev main_v43 : Ref sig .tc := ⟨.hbm, 112, rfl⟩
abbrev main_v44 : Ref sig .tc := ⟨.hbm, 113, rfl⟩
abbrev main_cst_7 : Ref sig .tc := ⟨.hbm, 114, rfl⟩
abbrev main_v45 : Ref sig .tc := ⟨.hbm, 115, rfl⟩
abbrev main_v46 : Ref sig .tc := ⟨.hbm, 116, rfl⟩
abbrev main_cst_8 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_cst_9 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩

abbrev nD : Nat := 1
abbrev τ : Topo := Topo.v7x

variable {F : FTy → Type} [FloatOps F]
-- ==== Proof.Vals.lean ====
/-
# The values the two-phase all-reduce moves and computes

For one device: the block of the packed buffer it fills (`packV`: the unnormalised contexts of the four heads in rows
0…255, their denominators in rows 256…259), what it holds after the first exchange and after the second, and the rows of
the result. Each is written with the operations of the kernel's text, so that the stores of the run are these values.
-/
module

public import proofs.«01_k».proof.Proof.Gen.KernelIdeal
public import proofs.«01_k».proof.Proof.Gen.KernelIdeal.Skeleton
public import Idealize.ShloMosaic.Lib.Pipeline.Kit
public import Idealize.ShloMosaic.Lib.ValueIdxCore
public import Idealize.ShloMosaic.Lib.Pipeline.Value
public import Idealize.ShloMosaic.Lib.Tactic

@[expose] public section

noncomputable section

namespace Cert.Butterfly

open Cert.KernelIdeal Cert.KernelIdeal.Gen

open Idealize.ShloMosaic
open Idealize.ShloMosaic.TcCoe Idealize.ShloMosaic.ValueIdx

variable {F : FTy → Type} [FloatOps F]

/-! ## Rectangles -/

theorem headSlices : ∀ h : Fin 4, S256x256.Slices ![0, 64 * h.val] S256x64 := by decide
theorem headSlicesT : ∀ h : Fin 4, S260x256.Slices ![0, 64 * h.val] S256x64 := by decide
theorem colSlices : ∀ h : Fin 4, S256x4.Slices ![0, h.val] S256x1 := by decide
theorem inbX : ∀ b : Fin 2, ∀ a, (![256 * b.val, 0] : Fin 2 → ℕ) a + S256x512.size a ≤ S512x512.size a := by decide
theorem inbK : ∀ b : Fin 2, ∀ a, (![b.val, 0, 0] : Fin 3 → ℕ) a + S1x256x256.size a ≤ S2x256x256.size a := by decide
theorem inbP : ∀ b : Fin 2, ∀ a, (![b.val, 0, 0] : Fin 3 → ℕ) a + S1x260x256.size a ≤ S2x260x256.size a := by decide

/-- One device's blocks of the five operands. -/
structure Blk (F : FTy → Type) where
  X : Vec F S512x512 .bf16
  W : Vec F S512x256 .bf16
  K : Vec F S2x256x256 .bf16
  V : Vec F S2x256x256 .bf16
  O : Vec F S256x512 .bf16

/-- The mask of device `c`'s keys: a query block sees a key block that is its own, the first, or at a distance the
    pattern admits. -/
def maskAt (c : Dev nD) : IVec S256x256 1 :=
  k0_pay3 (Scalar.remsi (Scalar.divsi (Dev.word c) 1#32) 4#32) k0_pay2 (iota .tc S256x256 32 [1] iota_S256x256_d1_w32)

variable (B : Blk F)

/-- Batch `b`'s rows of `x`. -/
def xRows (b : Fin 2) : Vec F S256x512 .bf16 := fun i => B.X ((Rect.unit (s := S512x512) ![256 * b.val, 0] S256x512.size (inbX b)).emb i)
/-- Batch `b`'s keys, as loaded, and as a matrix. -/
def kLoad (b : Fin 2) : Vec F S1x256x256 .bf16 := fun i => B.K ((Rect.unit (s := S2x256x256) ![b.val, 0, 0] S1x256x256.size (inbK b)).emb i)
def kRows (b : Fin 2) : FVec F S256x256 .bf16 := k0_pay5 (kLoad B b)
/-- Batch `b`'s values, as loaded, and as a matrix. -/
def vLoad (b : Fin 2) : Vec F S1x256x256 .bf16 := fun i => B.V ((Rect.unit (s := S2x256x256) ![b.val, 0, 0] S1x256x256.size (inbK b)).emb i)
def vRows (b : Fin 2) : FVec F S256x256 .bf16 := k0_pay6 (vLoad B b)
/-- Batch `b`'s scaled queries. -/
def qRows (b : Fin 2) : FVec F S256x256 .bf16 := k0_pay7 (k0_pay1 B.W) (xRows B b)

/-- Head `h`'s exponentials of the scores, zero where masked. -/
def probs (h : Fin 4) (M : IVec S256x256 1) (kk qq : FVec F S256x256 .bf16) : FVec F S256x256 .bf16 :=
  truncf .bf16 (select M (exp (matmul dot_S256x64_S256x64_S256x256_1_1_0_0_n_n none
    (extractStridedSlice S256x64 ![0, 64 * h.val] qq (headSlices h)) (extractStridedSlice S256x64 ![0, 64 * h.val] kk (headSlices h))
    (constant S256x256 .f32 0x00000000#32))) (broadcast S256x256 (Scalar.ofBits .f32 0x00000000#32))) bitsLt_bf16_f32

/-- Head `h`'s context of these keys, not divided. -/
def ctxPart (h : Fin 4) (M : IVec S256x256 1) (kk vv qq : FVec F S256x256 .bf16) : FVec F S256x64 .bf16 :=
  truncf .bf16 (matmul dot_S256x256_S256x64_S256x64_1_0_0_1_n_n none (probs h M kk qq)
    (extractStridedSlice S256x64 ![0, 64 * h.val] vv (headSlices h)) (constant S256x64 .f32 0x00000000#32)) bitsLt_bf16_f32

/-- Head `h`'s denominators of these keys, one per query. -/
def denPart (h : Fin 4) (M : IVec S256x256 1) (kk qq : FVec F S256x256 .bf16) : FVec F S1x256 .bf16 :=
  truncf .bf16 (matmul dot_S1x256_S256x256_S1x256_1_1_0_0_n_n none (k0_pay4 (F := F)) (probs h M kk qq)
    (constant S1x256 .f32 0x00000000#32)) bitsLt_bf16_f32

/-- Batch `b`'s block of the packed buffer: contexts above, denominators below. -/
def packV (M : IVec S256x256 1) (b : Fin 2) : Vec F S260x256 .bf16 := fun i =>
  if h : (i 0).val < 256 then
    ctxPart ⟨(i 1).val / 64, by have := (i 1).isLt; change (i 1).val < 256 at this; omega⟩ M (kRows B b) (vRows B b) (qRows B b)
      (ix2 (n0 := 256) (n1 := 64) ⟨(i 0).val, h⟩ ⟨(i 1).val % 64, Nat.mod_lt _ (by decide)⟩)
  else
    denPart ⟨(i 0).val - 256, by have := (i 0).isLt; change (i 0).val < 260 at this; omega⟩ M (kRows B b) (qRows B b)
      (ix2 (n0 := 1) (n1 := 256) 0 (i 1))

/-! ## The two exchanges -/

/-- A device's partner in exchange direction `d`: the neighbour in its pair, or the device opposite. -/
def par (d : Fin 2) (c : Dev nD) : Dev nD :=
  if d = 0 then ⟨c.val / 2 * 2 + (1 - c.val % 2), by have := c.isLt; change c.val < 4 at this; change _ < 4; omega⟩
  else ⟨3 - c.val, by change _ < 4; omega⟩

theorem par_par (d : Fin 2) (c : Dev nD) : par d (par d c) = c := by revert d c; decide

variable (A : Dev nD → Blk F)

/-- Device `c`'s own packed block. -/
def own0 (c : Dev nD) (b : Fin 2) : FVec F S260x256 .bf16 := packV (A c) (maskAt c) b
/-- Batch `b` after the first exchange. -/
def tot1 (c : Dev nD) (b : Fin 2) : FVec F S260x256 .bf16 := addf (own0 A c b) (own0 A (par b c) b)
/-- Batch `b` after both. -/
def tot2 (c : Dev nD) (b : Fin 2) : FVec F S260x256 .bf16 := addf (tot1 A c b) (tot1 A (par (1 + b) c) b)

/-! ## The result -/

/-- The reciprocals of the denominators, queries down, heads across. -/
def rden (T : FVec F S260x256 .bf16) : FVec F S256x4 .bf16 :=
  truncf .bf16 (divf (broadcast S256x4 (Scalar.ofBits .f32 0x3F800000#32)) (matmul dot_S256x256_S4x256_S256x4_1_1_0_0_n_n none
    (k0_pay41 (F := F)) (extractStridedSlice S4x256 ![256, 0] T slices_S260x256_o256_0_S4x256) (constant S256x4 .f32 0x00000000#32))) bitsLt_bf16_f32

/-- Head `h`'s context, divided. -/
def ctxHead (T : FVec F S260x256 .bf16) (h : Fin 4) : FVec F S256x64 .bf16 :=
  mulf (extractStridedSlice S256x64 ![0, 64 * h.val] T (headSlicesT h))
    (broadcastTo S256x64 (extractStridedSlice S256x1 ![0, h.val] (rden T) (colSlices h)) broadcasts_S256x1_S256x64)

/-- The heads side by side. -/
def ctxRows (T : FVec F S260x256 .bf16) : FVec F S256x256 .bf16 := fun i =>
  ctxHead T ⟨(i 1).val / 64, by have := (i 1).isLt; change (i 1).val < 256 at this; omega⟩
    (ix2 (n0 := 256) (n1 := 64) (i 0) ⟨(i 1).val % 64, Nat.mod_lt _ (by decide)⟩)

/-- Batch `b`'s rows of the result. -/
def outRows (c : Dev nD) (b : Fin 2) : FVec F S256x512 .bf16 := k0_pay54 (k0_pay46 (A c).O) (ctxRows (tot2 A c b))

/-- The result. -/
def outAll (c : Dev nD) : Vec F S512x512 .bf16 := fun i =>
  outRows A c ⟨(i 0).val / 256, by have := (i 0).isLt; change (i 0).val < 512 at this; omega⟩
    (ix2 (n0 := 256) (n1 := 512) ⟨(i 0).val % 256, Nat.mod_lt _ (by decide)⟩ (i 1))

/-! ## The stores' payloads, head by head -/

section Pays
variable (M : IVec S256x256 1) (q : FVec F S512x256 .bf16) (kk vv qq : FVec F S256x256 .bf16) (x0 : Vec F S256x512 .bf16) (kl : Vec F S1x256x256 .bf16)

theorem pay9_eq : k0_pay9 q M kk vv x0 = shapeCast S1x256x64 (ctxPart 0 M kk vv (k0_pay7 q x0)) shapeCasts_S256x64_S1x256x64 := rfl
theorem pay10_eq : k0_pay10 q M (k0_pay4 (F := F)) kk x0 = shapeCast S1x1x256 (denPart 0 M kk (k0_pay7 q x0)) shapeCasts_S1x256_S1x1x256 := rfl
theorem pay14_eq : k0_pay14 (k0_pay13 q M kk vv x0) = shapeCast S1x256x64 (ctxPart 1 M kk vv (k0_pay7 q x0)) shapeCasts_S256x64_S1x256x64 := rfl
theorem pay15_eq : k0_pay15 (k0_pay12 q M (k0_pay4 (F := F)) kk x0) = shapeCast S1x1x256 (denPart 1 M kk (k0_pay7 q x0)) shapeCasts_S1x256_S1x1x256 := rfl
theorem pay17_eq : k0_pay17 M kk vv qq = shapeCast S1x256x64 (ctxPart 2 M kk vv qq) shapeCasts_S256x64_S1x256x64 := rfl
theorem pay18_eq : k0_pay18 M (k0_pay4 (F := F)) kk qq = shapeCast S1x1x256 (denPart 2 M kk qq) shapeCasts_S1x256_S1x1x256 := rfl
theorem pay22_eq : k0_pay22 (k0_pay21 M kk vv qq) = shapeCast S1x256x64 (ctxPart 3 M kk vv qq) shapeCasts_S256x64_S1x256x64 := rfl
theorem pay23_eq : k0_pay23 (k0_pay20 M (k0_pay4 (F := F)) kk qq) = shapeCast S1x1x256 (denPart 3 M kk qq) shapeCasts_S1x256_S1x1x256 := rfl
theorem pay29_eq : k0_pay29 M vv (k0_pay27 q kl x0) (Scalar.ofBits .f32 0x00000000#32)
    = shapeCast S1x256x64 (ctxPart 0 M (k0_pay5 kl) vv (k0_pay7 q x0)) shapeCasts_S256x64_S1x256x64 := rfl
theorem pay30_eq : k0_pay30 M (k0_pay4 (F := F)) (k0_pay27 q kl x0) (Scalar.ofBits .f32 0x00000000#32)
    = shapeCast S1x1x256 (denPart 0 M (k0_pay5 kl) (k0_pay7 q x0)) shapeCasts_S1x256_S1x1x256 := rfl
theorem pay32_eq : k0_pay32 M kk vv qq = shapeCast S1x256x64 (ctxPart 1 M kk vv qq) shapeCasts_S256x64_S1x256x64 := rfl
theorem pay33_eq : k0_pay33 M (k0_pay4 (F := F)) kk qq = shapeCast S1x1x256 (denPart 1 M kk qq) shapeCasts_S1x256_S1x1x256 := rfl
theorem pay36_eq : k0_pay36 M vv (k0_pay34 kk qq) (Scalar.ofBits .f32 0x00000000#32)
    = shapeCast S1x256x64 (ctxPart 2 M kk vv qq) shapeCasts_S256x64_S1x256x64 := rfl
theorem pay37_eq : k0_pay37 M (k0_pay4 (F := F)) (k0_pay34 kk qq) (Scalar.ofBits .f32 0x00000000#32)
    = shapeCast S1x1x256 (denPart 2 M kk qq) shapeCasts_S1x256_S1x1x256 := rfl
theorem pay39_eq : k0_pay39 M kk vv qq = shapeCast S1x256x64 (ctxPart 3 M kk vv qq) shapeCasts_S256x64_S1x256x64 := rfl
theorem pay40_eq : k0_pay40 M (k0_pay4 (F := F)) kk qq = shapeCast S1x1x256 (denPart 3 M kk qq) shapeCasts_S1x256_S1x1x256 := rfl
theorem pay24_eq : k0_pay24 kl = k0_pay5 kl := rfl
theorem pay25_eq : k0_pay25 kl = k0_pay6 kl := rfl
theorem pay26_eq : k0_pay26 q x0 = k0_pay7 q x0 := rfl
end Pays

section OutPays
variable (T R : FVec F S260x256 .bf16) (v : Vec F S1x260x256 .bf16) (hv : shapeCast S260x256 v shapeCasts_S1x260x256_S260x256 = R)
include hv
theorem pay47_eq : k0_pay47 T v = addf T R := by subst hv; rfl
theorem pay48_eq : k0_pay48 (k0_pay41 (F := F)) T v = rden (addf T R) := by subst hv; rfl
theorem pay50_eq : k0_pay50 (k0_pay49 (k0_pay41 (F := F)) T v) = ctxHead (addf T R) 0 := by subst hv; exact shapeCast_self _ _
theorem pay57_eq : k0_pay57 (k0_pay41 (F := F)) T v = ctxHead (addf T R) 0 := by subst hv; exact shapeCast_self _ _
theorem pay58_eq : k0_pay58 (k0_pay41 (F := F)) T v = ctxHead (addf T R) 1 := by subst hv; exact shapeCast_self _ _
theorem pay59_eq : k0_pay59 (k0_pay41 (F := F)) T v = ctxHead (addf T R) 2 := by subst hv; exact shapeCast_self _ _
theorem pay60_eq : k0_pay60 (k0_pay41 (F := F)) T v = ctxHead (addf T R) 3 := by subst hv; exact shapeCast_self _ _
omit hv
theorem pay51_eq : k0_pay51 T (rden T) = ctxHead T 1 := shapeCast_self _ _
theorem pay52_eq : k0_pay52 T (rden T) = ctxHead T 2 := shapeCast_self _ _
theorem pay53_eq : k0_pay53 T (rden T) = ctxHead T 3 := shapeCast_self _ _
end OutPays

end Cert.Butterfly

end
-- ==== Proof.Proto.lean ====
/-
# The protocol of the two-phase all-reduce

Each device exchanges batch `b`'s packed block with one partner, adds, then exchanges the sum with another; the two
batches use the two partners in opposite order. The entry handshake runs on the runtime's barrier semaphore: a device
signals both partners and waits for two units. Under the rounds library a device has nine cells: the barrier's, of two
duties (one per partner), and one per exchange, direction and batch, of one duty each.
-/
module

public import proofs.«01_k».proof.Proof.Vals
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, and this protocol's with duties named `0` and `1` -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices the program names -/

theorem dev1_eq (c : Dev nD) : (⟨k0_dev1 c, k0_dev1_lt c⟩ : Dev nD) = par 0 c := by revert c; decide +kernel
theorem dev2_eq (c : Dev nD) : (⟨k0_dev2 c, k0_dev2_lt c⟩ : Dev nD) = par 1 c := by revert c; decide +kernel
theorem dev3_eq (c : Dev nD) : (⟨k0_dev3 c, k0_dev3_lt c⟩ : Dev nD) = par 0 c := by revert c; decide +kernel
theorem dev4_eq (c : Dev nD) : (⟨k0_dev4 c, k0_dev4_lt c⟩ : Dev nD) = par 1 c := by revert c; decide +kernel
theorem dev5_eq (c : Dev nD) : (⟨k0_dev5 c, k0_dev5_lt c⟩ : Dev nD) = par 1 c := by revert c; decide +kernel
theorem dev6_eq (c : Dev nD) : (⟨k0_dev6 c, k0_dev6_lt c⟩ : Dev nD) = par 0 c := by revert c; decide +kernel

/-- The partner of phase `p` for batch `b`. -/
abbrev peer (p b : Fin 2) (c : Dev nD) : Dev nD := par (p + b) c

/-! ## Memrefs and cells -/

/-- What phase `p` sends from, and where it lands. -/
def srcM : Fin 2 → Memref sig .tc .vmem S2x260x256 .bf16
  | 0 => Memref.whole cc0_scratch0
  | 1 => Memref.whole cc0_scratch2
def dstM : Fin 2 → Memref sig .tc .vmem S2x260x256 .bf16
  | 0 => Memref.whole cc0_scratch1
  | 1 => Memref.whole cc0_scratch3

/-- Batch `b`'s rectangle of such a buffer, and its slice. -/
abbrev slR (b : Fin 2) : Rect S2x260x256 := Rect.unit (s := S2x260x256) ![b.val, 0, 0] S1x260x256.size (inbP b)
abbrev slM (M : Memref sig .tc .vmem S2x260x256 .bf16) (b : Fin 2) : Memref sig .tc .vmem S260x256 .bf16 :=
  (M.slice (slR b) (fun _ => rfl)).squeeze S260x256 squeezes_S1x260x256_S260x256

theorem inbS : ∀ b : Fin 2, ∀ a, (![b.val] : Fin 1 → ℕ) a + S1.size a ≤ S2.size a := by decide

/-- Phase `p`'s send (`d = 0`) and receive (`d = 1`) semaphores. -/
def semArr : Fin 2 → Fin 2 → DmaSems sig S2
  | 0, 0 => cc0_scratch5
  | 0, 1 => cc0_scratch6
  | 1, 0 => cc0_scratch7
  | 1, 1 => cc0_scratch8

def xsem (p d b : Fin 2) : DmaSem sig :=
  (((semArr p d).slice (Rect.unit (s := S2) ![b.val] S1.size (inbS b))).squeeze S_ squeezes_S1_S_).sem

/-- The runtime's barrier semaphore. -/
abbrev barS : Sem sig := (SemArray.scalar (sig.barrier 0 rfl) : Sems sig S_).sem

abbrev XIdx : Type := Fin 2 × Fin 2 × Fin 2
abbrev osem (k : XIdx) : SemLoc sig := .dma (xsem k.1 k.2.1 k.2.2)
abbrev csem : Option XIdx → SemLoc sig
  | none => .reg barS
  | some k => osem k

abbrev barCell (c : Dev nD) : GSem nD τ sig := ((c : Thread nD τ), .reg barS)
abbrev xCell (p d b : Fin 2) (c : Dev nD) : GSem nD τ sig := ((c : Thread nD τ), .dma (xsem p d b))
abbrev kcell (ck : Dev nD × Option XIdx) : GSem nD τ sig := ((ck.1 : Thread nD τ), csem ck.2)

/-- Which exchange a semaphore belongs to. -/
def kindOf : SemLoc sig → Option XIdx
  | .reg _ => none
  | .dma s => if 6 ≤ s.val then
      some (⟨(s.val - 6) / 4 % 2, Nat.mod_lt _ (by decide)⟩, ⟨(s.val - 6) / 2 % 2, Nat.mod_lt _ (by decide)⟩, ⟨s.val % 2, Nat.mod_lt _ (by decide)⟩)
    else none

theorem kindOf_xsem : ∀ p d b : Fin 2, kindOf (.dma (xsem p d b)) = some (p, d, b) := by decide
theorem kindOf_bar : kindOf (.reg barS) = none := rfl
theorem xsem_ne_bar (p d b : Fin 2) : (SemLoc.dma (xsem p d b) : SemLoc sig) ≠ .reg barS := fun h => by cases h
theorem osem_inj : Function.Injective osem := fun k k' h => by
  have h1 := congrArg kindOf h
  obtain ⟨p, d, b⟩ := k
  obtain ⟨p', d', b'⟩ := k'
  rw [kindOf_xsem, kindOf_xsem] at h1
  exact Option.some.inj h1
theorem csem_inj : Function.Injective csem := fun k k' h => by
  cases k with
  | none => cases k' with
    | none => rfl
    | some k' => exact absurd h.symm (xsem_ne_bar _ _ _)
  | some k => cases k' with
    | none => exact absurd h (xsem_ne_bar _ _ _)
    | some k' => exact congrArg some (osem_inj h)

abbrev N : ℕ := (slM (dstM 0) 0).view.dmaCredit
theorem N_pos : 0 < N := View.dmaCredit_pos _ (by decide)

/-! ## The schedule -/

variable (A : Dev nD → Blk F)

/-- Batch `b`'s slice of the buffer `M` at device `c`, held at share `q` with contents `v`. -/
abbrev bPts (M : Memref sig .tc .vmem S2x260x256 .bf16) (c : Dev nD) (b : Fin 2) (q : PosShare TreeShare) (v : Vec F S260x256 .bf16) : sProp 𝕄 :=
  owns (c : Thread nD τ) (slM M b) q v

/-- What phase `p` sends of batch `b`. -/
def sent (p : Fin 2) (c : Dev nD) (b : Fin 2) : Vec F S260x256 .bf16 :=
  if p = 0 then own0 A c b else tot1 A c b

def sendPay (p b : Fin 2) (c : Dev nD) : sProp 𝕄 := bPts (srcM p) c b fullShare.right (sent A p c b)
def recvPay (p b : Fin 2) (c : Dev nD) : sProp 𝕄 := bPts (dstM p) c b fullShare (sent A p (peer p b c) b)
/-- What the partner in direction `d` hands over at the barrier: its two landing slices that `c` will send to, and that
    it has reached round 0 of their cells. -/
def barPay (d : Fin 2) (c : Dev nD) : sProp 𝕄 :=
  iprop(((∃ v, bPts (dstM 0) (par d c) d fullShare v) ∗ ∃ v, bPts (dstM 1) (par d c) (1 + d) fullShare v)
    ∗ reached ER (xCell 0 1 d (par d c)) 0 ∗ reached ER (xCell 1 1 (1 + d) (par d c)) 0)

instance sendPay_storable (p b : Fin 2) (c : Dev nD) : BI.Storable (upEmb : UEmb _ 𝕄) (sendPay A p b c) := by unfold sendPay; infer_instance
instance recvPay_storable (p b : Fin 2) (c : Dev nD) : BI.Storable (upEmb : UEmb _ 𝕄) (recvPay A p b c) := by unfold recvPay; infer_instance
omit [FloatOps F] in
instance barPay_storable (d : Fin 2) (c : Dev nD) : BI.Storable (upEmb : UEmb _ 𝕄) (barPay (F := F) d c) := by unfold barPay; infer_instance

/-- The payload of an exchange's cell. -/
def xPay (k : Option XIdx) (c : Dev nD) : sProp 𝕄 := match k with
  | none => iprop(emp)
  | some (p, d, b) => if d = 0 then sendPay A p b c else recvPay A p b c

instance xPay_storable (k : Option XIdx) (c : Dev nD) : BI.Storable (upEmb : UEmb _ 𝕄) (xPay A k c) := by
  unfold xPay
  split
  · infer_instance
  · split <;> infer_instance

def Rd : Rounds.Schedule (GSem nD τ sig) (Fin 2) 𝕄 where
  duties g r := if r = 0 ∧ g.1.2 = .tc then (if g.2 = .reg barS then Finset.univ else if (kindOf g.2).isSome then {0} else ∅) else ∅
  unitless _ := False
  amount g _ _ := if g.2 = .reg barS then 1 else N
  payload g _ d := if g.2 = .reg barS then barPay d g.1.1 else xPay A (kindOf g.2) g.1.1
  amount_pos g _ _ _ := by
    by_cases h : g.2 = .reg barS
    · rw [if_pos h]; exact Nat.one_pos
    · rw [if_neg h]; exact N_pos

instance Rd_payload_storable (g : GSem nD τ sig) (r : ℕ) (d : Fin 2) :
    BI.Storable (upEmb : UEmb _ 𝕄) ((Rd A).payload g r d) := by
  show BI.Storable upEmb (if g.2 = .reg barS then barPay d g.1.1 else xPay A (kindOf g.2) g.1.1)
  split <;> infer_instance

section Sched
variable (c : Dev nD) (p d b : Fin 2)

theorem duties_bar : (Rd A).duties (barCell c) 0 = Finset.univ := by
  dsimp only [Rd]; rw [if_pos ⟨rfl, rfl⟩]; exact if_pos rfl
theorem duties_x : (Rd A).duties (xCell p d b c) 0 = {0} := by
  dsimp only [Rd]; rw [if_pos ⟨rfl, rfl⟩, if_neg (xsem_ne_bar p d b), kindOf_xsem]; exact if_pos rfl
theorem duties_later (g : GSem nD τ sig) : ∀ r, 1 ≤ r → (Rd A).duties g r = ∅ :=
  fun r hr => by dsimp only [Rd]; rw [if_neg fun h => by omega]
theorem amount_bar (e : Fin 2) : (Rd A).amount (barCell c) 0 e = 1 := by dsimp only [Rd]; exact if_pos rfl
theorem amount_x (e : Fin 2) : (Rd A).amount (xCell p d b c) 0 e = N := by dsimp only [Rd]; exact if_neg (xsem_ne_bar p d b)
theorem expect_bar : (Rd A).expect (barCell c) 0 = 2 := by
  unfold Schedule.expect Schedule.amountOf
  rw [duties_bar, Finset.sum_congr rfl fun d _ => amount_bar A c d, Finset.sum_const, Finset.card_univ, Fintype.card_fin, smul_eq_mul]
theorem expect_x : (Rd A).expect (xCell p d b c) 0 = N := by
  unfold Schedule.expect Schedule.amountOf; rw [duties_x, Finset.sum_singleton, amount_x]
theorem payload_bar (e : Fin 2) : (Rd A).payload (barCell c) 0 e = barPay e c := by dsimp only [Rd]; exact if_pos rfl
theorem payload_send (e : Fin 2) : (Rd A).payload (xCell p 0 b c) 0 e = sendPay A p b c := by
  dsimp only [Rd]; rw [if_neg (xsem_ne_bar p 0 b), kindOf_xsem]; rfl
theorem payload_recv (e : Fin 2) : (Rd A).payload (xCell p 1 b c) 0 e = recvPay A p b c := by
  dsimp only [Rd]; rw [if_neg (xsem_ne_bar p 1 b), kindOf_xsem]; rfl
theorem rest_bar : bigSep ((Rd A).duties (barCell c) 0 \ ∅) (fun e => (Rd A).payload (barCell c) 0 e) = iprop(barPay 0 c ∗ barPay 1 c) := by
  rw [Finset.sdiff_empty, duties_bar, bigSep_univ_eq_bigSepL [0, 1] (by decide) (by decide), bigSepL_cons_cons, bigSepL_singleton,
    payload_bar, payload_bar]
  rfl
theorem rest_send : bigSep ((Rd A).duties (xCell p 0 b c) 0 \ ∅) (fun e => (Rd A).payload (xCell p 0 b c) 0 e) = sendPay A p b c := by
  rw [Finset.sdiff_empty, duties_x, bigSep_singleton, payload_send]
theorem rest_recv : bigSep ((Rd A).duties (xCell p 1 b c) 0 \ ∅) (fun e => (Rd A).payload (xCell p 1 b c) 0 e) = recvPay A p b c := by
  rw [Finset.sdiff_empty, duties_x, bigSep_singleton, payload_recv]
end Sched

/-! ## What each core owes; the levels -/

abbrev oR (p b : Fin 2) (c : Dev nD) : CellTallies nD τ sig Unit := tallyAt (xCell p 1 b (peer p b c)) () N
def O₁ (c : Dev nD) : CellTallies nD τ sig Unit := 0 + oR 1 1 c
def O₂ (c : Dev nD) : CellTallies nD τ sig Unit := O₁ c + oR 1 0 c
def O₃ (c : Dev nD) : CellTallies nD τ sig Unit := O₂ c + oR 0 1 c
def O₄ (c : Dev nD) : CellTallies nD τ sig Unit := O₃ c + oR 0 0 c
def O₅ (c : Dev nD) : CellTallies nD τ sig Unit := O₄ c + tallyAt (barCell (par 1 c)) () 1
def O₀ (c : Dev nD) : CellTallies nD τ sig Unit := O₅ c + tallyAt (barCell (par 0 c)) () 1

def L (g : GSem nD τ sig) : Finset Unit := if g.1.2 = .tc then {()} else ∅
/-- The barrier at 1, the first phase's receives at 2, the second's at 3, everything else at 0. -/
def lv (g : GSem nD τ sig) (_ : Unit) : ℕ := if g.2 = .reg barS then 1 else match kindOf g.2 with
  | some (p, d, _) => if d = 1 then 2 + p.val else 0
  | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (p b : Fin 2) (c : Dev nD) (u : Unit) : lv (xCell p 1 b c) u = 2 + p.val := by
  unfold lv; rw [if_neg (xsem_ne_bar p 1 b), kindOf_xsem]; rfl
theorem lv_send (p b : Fin 2) (c : Dev nD) (u : Unit) : lv (xCell p 0 b c) u = 0 := by
  unfold lv; rw [if_neg (xsem_ne_bar p 0 b), kindOf_xsem]; rfl

/-- Every obligation in `O` is to a cell above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases h' : g = ((c : Thread nD τ), sm) ∧ u = ()
  · rw [h'.1]; exact ⟨rfl, h⟩
  · rw [if_neg h'] at hg; exact absurd hg (Nat.lt_irrefl 0)

theorem above_O₁ (c : Dev nD) (n : ℕ) (h : n < 3) : Above n (O₁ c) := by
  unfold O₁; exact above_add (above_zero n) (above_tally _ _ _ (by rw [lv_recv]; exact h))
theorem above_O₂ (c : Dev nD) (n : ℕ) (h : n < 3) : Above n (O₂ c) := by
  unfold O₂; exact above_add (above_O₁ c n h) (above_tally _ _ _ (by rw [lv_recv]; exact h))
theorem above_O₄ (c : Dev nD) (n : ℕ) (h : n < 2) : Above n (O₄ c) := by
  unfold O₄ O₃
  exact above_add (above_add (above_O₂ c n (by omega)) (above_tally _ _ _ (by rw [lv_recv]; exact h))) (above_tally _ _ _ (by rw [lv_recv]; exact h))
theorem above_O₀ (c : Dev nD) : Above 0 (O₀ c) := by
  unfold O₀ O₅
  exact above_add (above_add (above_O₄ c 0 (by omega)) (above_tally _ _ _ (by rw [lv_bar]; decide))) (above_tally _ _ _ (by rw [lv_bar]; decide))

omit [FloatOps F] in
/-- A core may wait on a cell at level at most `n` while all it owes lies above. -/
theorem mayWait_above (c : Dev nD) (sm : SemLoc sig) (n : ℕ) (hn : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.Butterfly

end
-- ==== Proof.Stores.lean ====
/-
# Storing the packed block, the context and the result piece by piece

What a buffer's slice holds while the heads are stored one after the other, as a count of the heads stored; and the
rules for the stores and loads that keep it.
-/
module

public import proofs.«01_k».proof.Proof.Proto
public import Idealize.ShloMosaic.Lib.WritesUnit
public import Idealize.ShloMosaic.Lib.Pointwise.ShapeOpsCore

@[expose] public section

noncomputable section

namespace Cert.Butterfly

open Cert.KernelIdeal Cert.KernelIdeal.Gen

open Idealize.ShloMosaic hiding ix1 ix2 ix3 ix4 eq_ix1 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Slices -/

theorem slM_set (M : Memref sig .tc .vmem S2x260x256 .bf16) (b : Fin 2) : (slM M b).view.set = (slR b).set.map M.view.emb :=
  (View.set_reshape _ _).trans (View.set_slice _ _)

theorem mem_slR {b : Fin 2} {i : S2x260x256.Idx} : i ∈ (slR b).set ↔ (i 0).val = b.val := by
  rw [Rect.mem_set_unit]
  constructor
  · intro h; have := h 0; change b.val ≤ (i 0).val ∧ (i 0).val < b.val + 1 at this; omega
  · intro h a
    have h1 := (i 1).isLt; have h2 := (i 2).isLt
    change (i 1).val < 260 at h1; change (i 2).val < 256 at h2
    match a with
    | ⟨0, _⟩ => change b.val ≤ (i 0).val ∧ (i 0).val < b.val + 1; omega
    | ⟨1, _⟩ => change 0 ≤ (i 1).val ∧ (i 1).val < 0 + 260; omega
    | ⟨2, _⟩ => change 0 ≤ (i 2).val ∧ (i 2).val < 0 + 256; omega

/-- A rectangle one batch thick lies in the batch's slice. -/
theorem access_sub (M : Memref sig .tc .vmem S2x260x256 .bf16) (b : Fin 2) {off size : Fin 3 → ℕ} (inb : ∀ a, off a + size a ≤ S2x260x256.size a)
    (h0 : off 0 = b.val) (h1 : size 0 = 1) : (M.access (Rect.unit (s := S2x260x256) off size inb)).set ⊆ (slM M b).view.set := by
  rw [slM_set]
  refine (Finset.subset_of_eq (View.set_slice _ _)).trans (Finset.map_subset_map.mpr fun i hi => ?_)
  rw [Rect.mem_set_unit] at hi
  have := hi 0
  rw [mem_slR]
  change off 0 ≤ (i 0).val ∧ (i 0).val < off 0 + size 0 at this
  omega

theorem slices_disjoint (M : Memref sig .tc .vmem S2x260x256 .bf16) : Disjoint (slM M 0).view.set (slM M 1).view.set := by
  rw [slM_set, slM_set, Finset.disjoint_map, Finset.disjoint_left]
  intro i h h'
  rw [mem_slR] at h h'
  rw [h] at h'; exact absurd h' (by decide)

theorem slices_union (M : Memref sig .tc .vmem S2x260x256 .bf16) : (slM M 0).view.set ∪ (slM M 1).view.set = M.view.set := by
  rw [slM_set, slM_set, ← Finset.map_union]
  refine congrArg (fun s => Finset.map M.view.emb s) (Finset.eq_univ_of_forall fun i => ?_)
  rw [Finset.mem_union, mem_slR, mem_slR]
  have := (i 0).isLt; change (i 0).val < 2 at this
  change (i 0).val = 0 ∨ (i 0).val = 1
  omega

omit [FloatOps F] in
/-- A buffer held whole is its two batches' slices, -/
theorem split_slices (M : Memref sig .tc .vmem S2x260x256 .bf16) (c : Dev nD) (f : Buf (Elt F) (M.view.loc (c : Thread nD τ))) :
    (M.view.loc (c : Thread nD τ) ↦[M.view.set]{fullShare} f : sProp 𝕄) ⊢ iprop((∃ v, bPts M c 0 fullShare v) ∗ ∃ v, bPts M c 1 fullShare v) := by
  rw [← slices_union]
  refine (pointsTo_union (slices_disjoint M)).1.trans (BIClass.sep_mono ?_ ?_)
  · iintro H; iexists _; iapply (owns_intro (c : Thread nD τ) (slM M 0) fullShare f); iexact H
  · iintro H; iexists _; iapply (owns_intro (c : Thread nD τ) (slM M 1) fullShare f); iexact H

omit [FloatOps F] in
/-- and back. -/
theorem join_slices (M : Memref sig .tc .vmem S2x260x256 .bf16) (c : Dev nD) (v v' : Vec F S260x256 .bf16) :
    iprop(bPts M c 0 fullShare v ∗ bPts M c 1 fullShare v')
      ⊢ (iprop(∃ f, M.view.loc (c : Thread nD τ) ↦[M.view.set]{fullShare} f) : sProp 𝕄) := by
  rw [← slices_union]
  unfold bPts owns
  iintro ⟨⟨%f, %hf, H⟩, ⟨%g, %hg, H'⟩⟩
  iexists _
  iapply (pointsTo_join (slices_disjoint M))
  isplitl [H]
  · iexact H
  · iexact H'

/-! ## A slice loaded and stored whole -/

theorem load_whole_slice {Γ₀ : Variants} (M : Memref sig .tc .vmem S2x260x256 .bf16) (c : Dev nD) (b : Fin 2) (q : PosShare TreeShare) (v : Vec F S260x256 .bf16)
    {off : Fin 3 → ℕ} {inb : ∀ a, off a + S1x260x256.size a ≤ S2x260x256.size a} (hoff : off = ![b.val, 0, 0])
    {hl : M.view.LoadsAt (Rect.unit (s := S2x260x256) off S1x260x256.size inb).toLoadRect} {α : Type} {Q : α → sProp 𝕄}
    {k : Vec F S1x260x256 .bf16 → Prog (TpuEff nD τ sig (Elt F) Λ₀ .tc) α} :
    (bPts M c b q v : sProp 𝕄)
      ⊢ iprop((bPts M c b q v -∗ wp frame (wpE (defs₀ (F := F)) 𝒱₀ (c : Thread nD τ) none) Set.univ
            (k (shapeCast S1x260x256 v shapeCasts_S260x256_S1x260x256)) Q)
          -∗ wp frame (wpE (defs₀ (F := F)) 𝒱₀ (c : Thread nD τ) none) Set.univ
              (.op (.load M (Rect.unit (s := S2x260x256) off S1x260x256.size inb).toLoadRect hl) k) Q) := by
  subst hoff
  unfold bPts owns
  iintro ⟨%f, %hf, H⟩ Hk
  have hsub := access_sub M b (off := ![b.val, 0, 0]) (size := S1x260x256.size) inb rfl rfl
  have hv : (M.access (Rect.unit (s := S2x260x256) ![b.val, 0, 0] S1x260x256.size inb)).read (Elt F) f
      = shapeCast S1x260x256 v shapeCasts_S260x256_S1x260x256 := by
    rw [← hf]
    exact ((congrArg (fun w => shapeCast S1x260x256 w shapeCasts_S260x256_S1x260x256)
      (Memref.read_squeeze_slice M (slR b) (fun _ => rfl) squeezes_S1x260x256_S260x256 shapeCasts_S1x260x256_S260x256 f)).trans
      (shapeCast_shapeCast _ _ _)).symm
  rw [← hv]
  iapply (wp_load_rect 𝒱₀ (c : Thread nD τ) none Set.univ (m := M) (hl := hl) hsub) $$ H
  iintro H
  iapply Hk
  iexists f
  isplitr
  · ipureintro; exact hf
  · iexact H

theorem store_whole_slice (M : Memref sig .tc .vmem S2x260x256 .bf16) (c : Dev nD) (b : Fin 2) (v₀ v : Vec F S260x256 .bf16)
    {off : Fin 3 → ℕ} {inb : ∀ a, off a + S1x260x256.size a ≤ S2x260x256.size a} (hoff : off = ![b.val, 0, 0]) {w : Vec F S1x260x256 .bf16}
    (hw : w = shapeCast S1x260x256 v shapeCasts_S260x256_S1x260x256)
    {hx : (M.access (Rect.unit (s := S2x260x256) off S1x260x256.size inb)).Stores Finset.univ}
    {hm : (Finset.univ : Finset (Rect.unit (s := S2x260x256) off S1x260x256.size inb).shape.Idx) = Finset.univ ∨ ∀ a, (Rect.unit (s := S2x260x256) off S1x260x256.size inb).stride a = 1} {α : Type} {Q : α → sProp 𝕄}
    {k : PUnit → Prog (TpuEff nD τ sig (Elt F) Λ₀ .tc) α} :
    (bPts M c b fullShare v₀ : sProp 𝕄)
      ⊢ iprop((bPts M c b fullShare v -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit (s := S2x260x256) off S1x260x256.size inb) w Finset.univ hx hm) k) Q) := by
  subst hoff hw
  unfold bPts owns
  iintro ⟨%f, %hf, H⟩ Hk
  have hsub := access_sub M b (off := ![b.val, 0, 0]) (size := S1x260x256.size) inb rfl rfl
  iapply (wp_store 𝒱₀ (c : Thread nD τ) none Set.univ (m := M) (hx := hx) (hm := hm) (Mk := Finset.univ) (f := f) hsub) $$ H
  iintro H
  iapply Hk
  iexists ((M.access (slR b)).write (Elt F) f (shapeCast S1x260x256 v shapeCasts_S260x256_S1x260x256) Finset.univ)
  isplitr
  · ipureintro
    refine (Memref.read_squeeze_slice M (slR b) (fun _ => rfl) squeezes_S1x260x256_S260x256 shapeCasts_S1x260x256_S260x256 _).trans ?_
    refine Eq.trans (congrArg (fun w => shapeCast S260x256 w shapeCasts_S1x260x256_S260x256) (?_ : _ = shapeCast S1x260x256 v shapeCasts_S260x256_S1x260x256))
      (shapeCast_shapeCast _ _ _)
    exact View.read_write_univ (v := M.access (slR b)) f _
  · iexact H

/-! ## The packed block head by head -/

/-- The contents `f` of a packed buffer agree with `v` at batch `b` on the first `n` heads' columns of the context
    rows and on the first `m` denominator rows. -/
def Filled (M : Memref sig .tc .vmem S2x260x256 .bf16) (b : Fin 2) (v : Vec F S260x256 .bf16) (n m : ℕ) (g : Vec F S2x260x256 .bf16) : Prop :=
  (∀ (r : Fin 260) (j : Fin 256), r.val < 256 → j.val < 64 * n → g (ix3 b r j) = v (ix2 r j))
    ∧ ∀ (r : Fin 260) (j : Fin 256), 256 ≤ r.val → r.val < 256 + m → g (ix3 b r j) = v (ix2 r j)

/-- Device `c`'s slice `b` of a packed buffer, with the first `n` heads' contexts and `m` heads' denominators in place. -/
def packP (M : Memref sig .tc .vmem S2x260x256 .bf16) (c : Dev nD) (b : Fin 2) (v : Vec F S260x256 .bf16) (n m : ℕ) : sProp 𝕄 :=
  iprop(∃ f : Buf (Elt F) (M.view.loc (c : Thread nD τ)), ⌜Filled M b v n m (M.view.read (Elt F) f)⌝ ∗ M.view.loc (c : Thread nD τ) ↦[(slM M b).view.set]{fullShare} f)

omit [FloatOps F] in
theorem packP_start (M : Memref sig .tc .vmem S2x260x256 .bf16) (c : Dev nD) (b : Fin 2) (v v₀ : Vec F S260x256 .bf16) :
    (bPts M c b fullShare v₀ : sProp 𝕄) ⊢ packP M c b v 0 0 := by
  unfold bPts owns packP
  iintro ⟨%f, -, H⟩
  iexists f
  isplitr
  · ipureintro
    exact ⟨fun r j _ h => absurd h (by omega), fun r j h h' => absurd h' (by omega)⟩
  · iexact H

omit [FloatOps F] in
theorem packP_done (M : Memref sig .tc .vmem S2x260x256 .bf16) (c : Dev nD) (b : Fin 2) (v : Vec F S260x256 .bf16) :
    (packP M c b v 4 4 : sProp 𝕄) ⊢ bPts M c b fullShare v := by
  unfold bPts owns packP
  iintro ⟨%f, %hf, H⟩
  iexists f
  isplitr
  · ipureintro
    refine (Memref.read_squeeze_slice M (slR b) (fun _ => rfl) squeezes_S1x260x256_S260x256 shapeCasts_S1x260x256_S260x256 f).trans ?_
    funext y
    have e : shapeCast S260x256 (M.view.readAt (Elt F) (slR b).toLoadRect f) shapeCasts_S1x260x256_S260x256 y
        = M.view.read (Elt F) f (ix3 b (y 0) (y 1)) := by
      rw [eq_ix2 y]
      refine (shapeCast_dropUnit_apply _ _ _ _).trans (congrArg (M.view.read (Elt F) f) (funext fun a => ?_))
      match a with
      | ⟨0, _⟩ => exact Fin.ext (by change b.val + 1 * 0 = b.val; omega)
      | ⟨1, _⟩ => exact Fin.ext (by change 0 + 1 * (y 0).val = (y 0).val; omega)
      | ⟨2, _⟩ => exact Fin.ext (by change 0 + 1 * (y 1).val = (y 1).val; omega)
    rw [e]
    by_cases h : (y 0).val < 256
    · exact (hf.1 (y 0) (y 1) h (by have := (y 1).isLt; change (y 1).val < 256 at this; omega)).trans (congrArg v (eq_ix2 y).symm)
    · exact (hf.2 (y 0) (y 1) (by omega) (by have := (y 0).isLt; change (y 0).val < 260 at this; omega)).trans (congrArg v (eq_ix2 y).symm)
  · iexact H

/-- A load whose result is not used keeps the slice. -/
theorem pack_load (M : Memref sig .tc .vmem S2x260x256 .bf16) (c : Dev nD) (b : Fin 2) (v : Vec F S260x256 .bf16) (n m : ℕ)
    {off size : Fin 3 → ℕ} {inb : ∀ a, off a + size a ≤ S2x260x256.size a} (h0 : off 0 = b.val) (h1 : size 0 = 1)
    {hl : M.view.LoadsAt (Rect.unit (s := S2x260x256) off size inb).toLoadRect} {α : Type} {Q : α → sProp 𝕄}
    {k : Vec F (Rect.unit (s := S2x260x256) off size inb).toLoadRect.shape .bf16 → Prog (TpuEff nD τ sig (Elt F) Λ₀ .tc) α} :
    (packP M c b v n m : sProp 𝕄)
      ⊢ iprop((∀ x, packP M c b v n m -∗ wp frame (wpE (defs₀ (F := F)) 𝒱₀ (c : Thread nD τ) none) Set.univ (k x) Q)
          -∗ wp frame (wpE (defs₀ (F := F)) 𝒱₀ (c : Thread nD τ) none) Set.univ
              (.op (.load M (Rect.unit (s := S2x260x256) off size inb).toLoadRect hl) k) Q) := by
  unfold packP
  iintro ⟨%f, %hf, H⟩ Hk
  iapply (wp_load_rect 𝒱₀ (c : Thread nD τ) none Set.univ (m := M) (hl := hl) (access_sub M b inb h0 h1)) $$ H
  iintro H
  iapply Hk
  iexists f
  isplitr
  · ipureintro; exact hf
  · iexact H

/-- Storing head `n`'s context into its columns. -/
theorem pack_store_ctx (M : Memref sig .tc .vmem S2x260x256 .bf16) (c : Dev nD) (b : Fin 2) (v : Vec F S260x256 .bf16) (n m : ℕ)
    {off : Fin 3 → ℕ} {inb : ∀ a, off a + S1x256x64.size a ≤ S2x260x256.size a} (hoff : off = ![b.val, 0, 64 * n]) {w : Vec F S1x256x64 .bf16}
    (hw : ∀ (r : Fin 256) (j : Fin 64) (h : 64 * n + j.val < 256), w (ix3 0 r j) = v (ix2 ⟨r.val, by omega⟩ ⟨64 * n + j.val, h⟩))
    {hx : (M.access (Rect.unit (s := S2x260x256) off S1x256x64.size inb)).Stores Finset.univ}
    {hm : (Finset.univ : Finset (Rect.unit (s := S2x260x256) off S1x256x64.size inb).shape.Idx) = Finset.univ ∨ ∀ a, (Rect.unit (s := S2x260x256) off S1x256x64.size inb).stride a = 1} {α : Type} {Q : α → sProp 𝕄}
    {k : PUnit → Prog (TpuEff nD τ sig (Elt F) Λ₀ .tc) α} :
    (packP M c b v n m : sProp 𝕄)
      ⊢ iprop((packP M c b v (n + 1) m -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit (s := S2x260x256) off S1x256x64.size inb) w Finset.univ hx hm) k) Q) := by
  subst hoff
  unfold packP
  iintro ⟨%f, %hf, H⟩ Hk
  iapply (wp_store 𝒱₀ (c : Thread nD τ) none Set.univ (m := M) (hx := hx) (hm := hm) (Mk := Finset.univ) (access_sub M b inb rfl rfl)) $$ H
  iintro H
  iapply Hk
  iexists ((M.access (Rect.unit (s := S2x260x256) ![b.val, 0, 64 * n] S1x256x64.size inb)).write (Elt F) f w Finset.univ)
  isplitr
  · ipureintro
    refine ⟨fun r j h1 h2 => ?_, fun r j h1 h2 => ?_⟩
    · by_cases h3 : 64 * n ≤ j.val
      · have hj : j.val - 64 * n < 64 := by omega
        have e := hw ⟨r.val, h1⟩ ⟨j.val - 64 * n, hj⟩ (by have := j.isLt; change 64 * n + (j.val - 64 * n) < 256; omega)
        refine (View.read_writes_cons_unit_of_mem M.view f inb w [] (ix3 b r j) (ix3 0 ⟨r.val, h1⟩ ⟨j.val - 64 * n, hj⟩) rfl fun a => ?_).trans
          (e.trans (congrArg v (funext fun a => ?_)))
        · match a with
          | ⟨0, _⟩ => change b.val = b.val + 0; omega
          | ⟨1, _⟩ => change r.val = 0 + r.val; omega
          | ⟨2, _⟩ => change j.val = 64 * n + (j.val - 64 * n); omega
        · match a with
          | ⟨0, _⟩ => rfl
          | ⟨1, _⟩ => exact Fin.ext (by change 64 * n + (j.val - 64 * n) = j.val; omega)
      · refine (View.read_writes_cons_unit_of_not_mem M.view f inb w [] (ix3 b r j) rfl 2 (Or.inl ?_)).trans (hf.1 r j h1 (by omega))
        change j.val < 64 * n; omega
    · refine (View.read_writes_cons_unit_of_not_mem M.view f inb w [] (ix3 b r j) rfl 1 (Or.inr ?_)).trans (hf.2 r j h1 h2)
      change 0 + 256 ≤ r.val; omega
  · iexact H

/-- Storing head `m`'s denominators: the pair of rows is read, one of the two is replaced, and the pair is stored. -/
theorem pack_store_den (M : Memref sig .tc .vmem S2x260x256 .bf16) (c : Dev nD) (b : Fin 2) (v : Vec F S260x256 .bf16) (n m : ℕ) (p t : ℕ)
    (hm : m = 2 * p + t) (ht : t < 2)
    {off : Fin 3 → ℕ} {inb : ∀ a, off a + S1x2x256.size a ≤ S2x260x256.size a} (hoff : off = ![b.val, 256 + 2 * p, 0])
    {off' : Fin 3 → ℕ} {hsl : S1x2x256.Slices off' S1x1x256} (hoff' : off' = ![0, t, 0]) {w : Vec F S1x1x256 .bf16}
    (hw : ∀ (j : Fin 256) (h : 256 + m < 260), w (ix3 0 0 j) = v (ix2 ⟨256 + m, h⟩ j))
    {hl} {hs} {α : Type} {Q : α → sProp 𝕄}
    {k : PUnit → Prog (TpuEff nD τ sig (Elt F) Λ₀ .tc) α} :
    (packP M c b v n m : sProp 𝕄)
      ⊢ iprop((packP M c b v n (m + 1) -∗ wp frame (wpE (defs₀ (F := F)) 𝒱₀ (c : Thread nD τ) none) Set.univ (k ⟨⟩) Q)
          -∗ wp frame (wpE (defs₀ (F := F)) 𝒱₀ (c : Thread nD τ) none) Set.univ
              ((storeSubelements M (Rect.unit (s := S2x260x256) off S1x2x256.size inb) (fun old => updateSlice old w off' hsl) hl hs).bind k) Q) := by
  subst hoff hoff'
  unfold packP storeSubelements
  simp only [Prog.bind_op, Prog.bind_ret]
  iintro ⟨%f, %hf, H⟩ Hk
  iapply (wp_load_rect 𝒱₀ (c : Thread nD τ) none Set.univ (m := M) (hl := hl) (f := f) (access_sub M b inb rfl rfl)) $$ H
  iintro H
  iapply (wp_store 𝒱₀ (c : Thread nD τ) none Set.univ (m := M) (hx := hs) (Mk := Finset.univ) (f := f) (access_sub M b inb rfl rfl)) $$ H
  iintro H
  iapply Hk
  iexists ((M.access (Rect.unit (s := S2x260x256) ![b.val, 256 + 2 * p, 0] S1x2x256.size inb)).write (Elt F) f
    (updateSlice ((M.access (Rect.unit (s := S2x260x256) ![b.val, 256 + 2 * p, 0] S1x2x256.size inb)).read (Elt F) f) w ![0, t, 0] hsl) Finset.univ)
  isplitr
  · ipureintro
    refine ⟨fun r j h1 h2 => ?_, fun r j h1 h2 => ?_⟩
    · refine (View.read_writes_cons_unit_of_not_mem M.view f inb _ [] (ix3 b r j) rfl 1 (Or.inl ?_)).trans (hf.1 r j h1 h2)
      change r.val < 256 + 2 * p; omega
    · by_cases h3 : r.val < 256 + 2 * p
      · exact (View.read_writes_cons_unit_of_not_mem M.view f inb _ [] (ix3 b r j) rfl 1 (Or.inl h3)).trans (hf.2 r j h1 (by omega))
      · have hj : r.val - (256 + 2 * p) < 2 := by omega
        refine Eq.trans (b := (updateSlice ((M.access (Rect.unit (s := S2x260x256) ![b.val, 256 + 2 * p, 0] S1x2x256.size inb)).read (Elt F) f) w ![0, t, 0] hsl) (ix3 0 ⟨r.val - (256 + 2 * p), hj⟩ j))
          (View.read_writes_cons_unit_of_mem M.view f inb (updateSlice ((M.access (Rect.unit (s := S2x260x256) ![b.val, 256 + 2 * p, 0] S1x2x256.size inb)).read (Elt F) f) w ![0, t, 0] hsl) [] (ix3 b r j) (ix3 0 ⟨r.val - (256 + 2 * p), hj⟩ j) rfl fun a => ?_) ?_
        · match a with
          | ⟨0, _⟩ => change b.val = b.val + 0; omega
          | ⟨1, _⟩ => change r.val = 256 + 2 * p + (r.val - (256 + 2 * p)); omega
          | ⟨2, _⟩ => change j.val = 0 + j.val; omega
        · rw [updateSlice_apply]
          by_cases h4 : r.val = 256 + m
          · have h5 : 256 + m < 260 := by have := r.isLt; omega
            rw [dif_pos]
            · refine Eq.trans (congrArg w (funext fun a => ?_)) ((hw j h5).trans (congrArg v (funext fun a => ?_)))
              · match a with
                | ⟨0, _⟩ => exact Fin.ext rfl
                | ⟨1, _⟩ => exact Fin.ext (by change r.val - (256 + 2 * p) - t = 0; omega)
                | ⟨2, _⟩ => exact Fin.ext (by change j.val - 0 = j.val; omega)
              · match a with
                | ⟨0, _⟩ => exact Fin.ext h4.symm
                | ⟨1, _⟩ => rfl
            · intro a
              match a with
              | ⟨0, _⟩ => change 0 ≤ 0 ∧ 0 < 0 + 1; omega
              | ⟨1, _⟩ => change t ≤ r.val - (256 + 2 * p) ∧ r.val - (256 + 2 * p) < t + 1; omega
              | ⟨2, _⟩ => have := j.isLt; change 0 ≤ j.val ∧ j.val < 0 + 256; omega
          · rw [dif_neg]
            · refine Eq.trans ?_ (hf.2 r j h1 (by omega))
              refine congrArg (M.view.read (Elt F) f) (funext fun a => ?_)
              match a with
              | ⟨0, _⟩ => exact Fin.ext (by change b.val + 1 * 0 = b.val; omega)
              | ⟨1, _⟩ => exact Fin.ext (by change 256 + 2 * p + 1 * (r.val - (256 + 2 * p)) = r.val; omega)
              | ⟨2, _⟩ => exact Fin.ext (by change 0 + 1 * j.val = j.val; omega)
            · intro h
              have h5 := h 1
              change t ≤ r.val - (256 + 2 * p) ∧ r.val - (256 + 2 * p) < t + 1 at h5; omega
  · iexact H

end Cert.Butterfly

end
-- ==== Proof.Stage.lean ====
/-
# Reading the staged blocks, storing the context and the result

The rules for the loads of the inputs' staged blocks, and for the context buffer and the result's block, which are
stored piece by piece: what they hold is stated by a count of the pieces stored.
-/
module

public import proofs.«01_k».proof.Proof.Stores

@[expose] public section

noncomputable section

namespace Cert.Butterfly

open Cert.KernelIdeal Cert.KernelIdeal.Gen

open Idealize.ShloMosaic hiding ix1 ix2 ix3 ix4 eq_ix1 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The context buffer and the result's staged block. -/
abbrev cM : Memref sig .tc .vmem S512x256 .bf16 := Memref.whole cc0_scratch4
abbrev oM : Memref sig .tc .vmem S512x512 .bf16 := Memref.whole cc0_stg5_0

/-- A staged block is read at a rectangle. -/
theorem load_block {s : Shape} {e : EltTy} (M : Memref sig .tc .vmem s e) (c : Dev nD) (X : s.Idx → Elt F e) (r : Rect s)
    {hl : M.view.LoadsAt r.toLoadRect} {α : Type} {Q : α → sProp 𝕄}
    {k : (r.toLoadRect.shape.Idx → Elt F e) → Prog (TpuEff nD τ sig (Elt F) Λ₀ .tc) α} :
    (owns (c : Thread nD τ) M fullShare X : sProp 𝕄)
      ⊢ iprop((owns (c : Thread nD τ) M fullShare X -∗ wp frame (wpE (defs₀ (F := F)) 𝒱₀ (c : Thread nD τ) none) Set.univ (k fun i => X (r.emb i)) Q)
          -∗ wp frame (wpE (defs₀ (F := F)) 𝒱₀ (c : Thread nD τ) none) Set.univ
              (.op (.load M r.toLoadRect hl) k) Q) := by
  unfold owns
  iintro ⟨%f, %hf, H⟩ Hk
  subst hf
  have hsub : (M.access r).set ⊆ M.view.set :=
    (Finset.subset_of_eq (View.set_slice _ _)).trans (Finset.map_subset_map.mpr (Finset.subset_univ _))
  iapply (wp_load_rect 𝒱₀ (c : Thread nD τ) none Set.univ (m := M) (hl := hl) (f := f) hsub) $$ H
  iintro H
  iapply Hk
  iexists f
  isplitr
  · ipureintro; rfl
  · iexact H

/-! ## The context buffer -/

/-- Device `c`'s context buffer with the first `n` heads of batch `b` in place. -/
def ctxP (c : Dev nD) (b : Fin 2) (v : Vec F S256x256 .bf16) (n : ℕ) : sProp 𝕄 :=
  iprop(∃ f : Buf (Elt F) ((c : Thread nD τ).loc cc0_scratch4),
    ⌜∀ (r j : Fin 256), j.val < 64 * n → cM.view.read (Elt F) f (ix2 ⟨256 * b.val + r.val, by omega⟩ j) = v (ix2 r j)⌝
      ∗ (c : Thread nD τ).loc cc0_scratch4 ↦{fullShare} f)

theorem ctxP_start (c : Dev nD) (b : Fin 2) (v : Vec F S256x256 .bf16) :
    (iprop(∃ f : Buf (Elt F) ((c : Thread nD τ).loc cc0_scratch4), (c : Thread nD τ).loc cc0_scratch4 ↦{fullShare} f) : sProp 𝕄) ⊢ ctxP c b v 0 := by
  unfold ctxP
  iintro ⟨%f, H⟩
  iexists f
  isplitr
  · ipureintro; exact fun r j h => absurd h (by omega)
  · iexact H

theorem ctxP_forget (c : Dev nD) (b : Fin 2) (v : Vec F S256x256 .bf16) (n : ℕ) :
    ctxP c b v n ⊢ (iprop(∃ f : Buf (Elt F) ((c : Thread nD τ).loc cc0_scratch4), (c : Thread nD τ).loc cc0_scratch4 ↦{fullShare} f) : sProp 𝕄) := by
  unfold ctxP
  iintro ⟨%f, -, H⟩
  iexists f
  iexact H

theorem ctx_load (c : Dev nD) (b : Fin 2) (v : Vec F S256x256 .bf16) (n : ℕ) (r : Rect S512x256)
    {hl : cM.view.LoadsAt r.toLoadRect} {α : Type} {Q : α → sProp 𝕄}
    {k : (r.toLoadRect.shape.Idx → Elt F .bf16) → Prog (TpuEff nD τ sig (Elt F) Λ₀ .tc) α} :
    (ctxP c b v n : sProp 𝕄)
      ⊢ iprop((∀ x, ctxP c b v n -∗ wp frame (wpE (defs₀ (F := F)) 𝒱₀ (c : Thread nD τ) none) Set.univ (k x) Q)
          -∗ wp frame (wpE (defs₀ (F := F)) 𝒱₀ (c : Thread nD τ) none) Set.univ
              (.op (.load cM r.toLoadRect hl) k) Q) := by
  unfold ctxP
  iintro ⟨%f, %hf, H⟩ Hk
  iapply (wp_load 𝒱₀ (c : Thread nD τ) none Set.univ (m := cM) (hl := hl) (Finset.subset_univ _)) $$ H
  iintro H
  iapply Hk
  iexists f
  isplitr
  · ipureintro; exact hf
  · iexact H

/-- With every head in place the batch's rows read `v`. -/
theorem ctx_load_all (c : Dev nD) (b : Fin 2) (v : Vec F S256x256 .bf16)
    {off : Fin 2 → ℕ} {inb : ∀ a, off a + S256x256.size a ≤ S512x256.size a} (hoff : off = ![256 * b.val, 0])
    {hl : cM.view.LoadsAt (Rect.unit (s := S512x256) off S256x256.size inb).toLoadRect} {α : Type} {Q : α → sProp 𝕄}
    {k : (S256x256.Idx → Elt F .bf16) → Prog (TpuEff nD τ sig (Elt F) Λ₀ .tc) α} :
    (ctxP c b v 4 : sProp 𝕄)
      ⊢ iprop((ctxP c b v 4 -∗ wp frame (wpE (defs₀ (F := F)) 𝒱₀ (c : Thread nD τ) none) Set.univ (k v) Q)
          -∗ wp frame (wpE (defs₀ (F := F)) 𝒱₀ (c : Thread nD τ) none) Set.univ
              (.op (.load cM (Rect.unit (s := S512x256) off S256x256.size inb).toLoadRect hl) k) Q) := by
  subst hoff
  unfold ctxP
  iintro ⟨%f, %hf, H⟩ Hk
  have hv : (fun i : S256x256.Idx => cM.view.read (Elt F) f ((Rect.unit (s := S512x256) ![256 * b.val, 0] S256x256.size inb).emb i)) = v := by
    funext i
    refine Eq.trans (congrArg (cM.view.read (Elt F) f) (funext fun a => ?_)) ((hf (i 0) (i 1) (by have := (i 1).isLt; change (i 1).val < 256 at this; omega)).trans (congrArg v (eq_ix2 i).symm))
    match a with
    | ⟨0, _⟩ => exact Fin.ext (by change 256 * b.val + 1 * (i 0).val = 256 * b.val + (i 0).val; omega)
    | ⟨1, _⟩ => exact Fin.ext (by change 0 + 1 * (i 1).val = (i 1).val; omega)
  rw [← hv]
  iapply (wp_load 𝒱₀ (c : Thread nD τ) none Set.univ (m := cM) (hl := hl) (Finset.subset_univ _)) $$ H
  iintro H
  iapply Hk
  iexists f
  isplitr
  · ipureintro; rw [hv]; exact hf
  · iexact H

/-- Storing head `n`'s context. -/
theorem ctx_store (c : Dev nD) (b : Fin 2) (v : Vec F S256x256 .bf16) (n : ℕ)
    {off : Fin 2 → ℕ} {inb : ∀ a, off a + S256x64.size a ≤ S512x256.size a} (hoff : off = ![256 * b.val, 64 * n]) {w : Vec F S256x64 .bf16}
    (hw : ∀ (r : Fin 256) (j : Fin 64) (h : 64 * n + j.val < 256), w (ix2 r j) = v (ix2 r ⟨64 * n + j.val, h⟩))
    {hx : (cM.access (Rect.unit (s := S512x256) off S256x64.size inb)).Stores Finset.univ}
    {hm : (Finset.univ : Finset (Rect.unit (s := S512x256) off S256x64.size inb).shape.Idx) = Finset.univ ∨ ∀ a, (Rect.unit (s := S512x256) off S256x64.size inb).stride a = 1} {α : Type} {Q : α → sProp 𝕄}
    {k : PUnit → Prog (TpuEff nD τ sig (Elt F) Λ₀ .tc) α} :
    (ctxP c b v n : sProp 𝕄)
      ⊢ iprop((ctxP c b v (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.store cM (Rect.unit (s := S512x256) off S256x64.size inb) w Finset.univ hx hm) k) Q) := by
  subst hoff
  unfold ctxP
  iintro ⟨%f, %hf, H⟩ Hk
  iapply (wp_store 𝒱₀ (c : Thread nD τ) none Set.univ (m := cM) (hx := hx) (hm := hm) (Mk := Finset.univ) (f := f) (Finset.subset_univ _)) $$ H
  iintro H
  iapply Hk
  iexists ((cM.access (Rect.unit (s := S512x256) ![256 * b.val, 64 * n] S256x64.size inb)).write (Elt F) f w Finset.univ)
  isplitr
  · ipureintro
    intro r j h2
    by_cases h3 : 64 * n ≤ j.val
    · have hj : j.val - 64 * n < 64 := by omega
      have e := hw r ⟨j.val - 64 * n, hj⟩ (by have := j.isLt; change 64 * n + (j.val - 64 * n) < 256; omega)
      refine (View.read_writes_cons_unit_of_mem cM.view f inb w []
        (ix2 ⟨256 * b.val + r.val, by omega⟩ j) (ix2 r ⟨j.val - 64 * n, hj⟩) rfl fun a => ?_).trans (e.trans (congrArg v (funext fun a => ?_)))
      · match a with
        | ⟨0, _⟩ => rfl
        | ⟨1, _⟩ => change j.val = 64 * n + (j.val - 64 * n); omega
      · match a with
        | ⟨0, _⟩ => rfl
        | ⟨1, _⟩ => exact Fin.ext (by change 64 * n + (j.val - 64 * n) = j.val; omega)
    · refine (View.read_writes_cons_unit_of_not_mem cM.view f inb w []
        (ix2 ⟨256 * b.val + r.val, by omega⟩ j) rfl 1 (Or.inl ?_)).trans (hf r j (by omega))
      change j.val < 64 * n; omega
  · iexact H

/-! ## The result's block -/

/-- Device `c`'s result block with the first `n` batches' rows in place. -/
def outP (c : Dev nD) (v : Vec F S512x512 .bf16) (n : ℕ) : sProp 𝕄 :=
  iprop(∃ f : Buf (Elt F) ((c : Thread nD τ).loc cc0_stg5_0),
    ⌜∀ (r j : Fin 512), r.val < 256 * n → oM.view.read (Elt F) f (ix2 r j) = v (ix2 r j)⌝
      ∗ (c : Thread nD τ).loc cc0_stg5_0 ↦{fullShare} f)

theorem outP_start (c : Dev nD) (v : Vec F S512x512 .bf16) (f : Buf (Elt F) ((c : Thread nD τ).loc cc0_stg5_0)) :
    ((c : Thread nD τ).loc cc0_stg5_0 ↦{fullShare} f : sProp 𝕄) ⊢ outP c v 0 := by
  unfold outP
  iintro H
  iexists f
  isplitr
  · ipureintro; exact fun r j h => absurd h (by omega)
  · iexact H

theorem outP_done (c : Dev nD) (v : Vec F S512x512 .bf16) :
    (outP c v 2 : sProp 𝕄) ⊢ ((c : Thread nD τ).loc cc0_stg5_0 ↦{fullShare} (v : Buf (Elt F) ((c : Thread nD τ).loc cc0_stg5_0))) := by
  unfold outP
  iintro ⟨%f, %hf, H⟩
  have e : oM.view.read (Elt F) f = v := funext fun i =>
    (congrArg (oM.view.read (Elt F) f) (eq_ix2 i)).trans ((hf (i 0) (i 1) (by have := (i 0).isLt; change (i 0).val < 512 at this; omega)).trans (congrArg v (eq_ix2 i).symm))
  subst e
  iexact H

theorem out_load (c : Dev nD) (v : Vec F S512x512 .bf16) (n : ℕ) (r : Rect S512x512)
    {hl : oM.view.LoadsAt r.toLoadRect} {α : Type} {Q : α → sProp 𝕄}
    {k : (r.toLoadRect.shape.Idx → Elt F .bf16) → Prog (TpuEff nD τ sig (Elt F) Λ₀ .tc) α} :
    (outP c v n : sProp 𝕄)
      ⊢ iprop((∀ x, outP c v n -∗ wp frame (wpE (defs₀ (F := F)) 𝒱₀ (c : Thread nD τ) none) Set.univ (k x) Q)
          -∗ wp frame (wpE (defs₀ (F := F)) 𝒱₀ (c : Thread nD τ) none) Set.univ
              (.op (.load oM r.toLoadRect hl) k) Q) := by
  unfold outP
  iintro ⟨%f, %hf, H⟩ Hk
  iapply (wp_load 𝒱₀ (c : Thread nD τ) none Set.univ (m := oM) (hl := hl) (Finset.subset_univ _)) $$ H
  iintro H
  iapply Hk
  iexists f
  isplitr
  · ipureintro; exact hf
  · iexact H

/-- Storing batch `n`'s rows of the result. -/
theorem out_store (c : Dev nD) (v : Vec F S512x512 .bf16) (n : ℕ)
    {off : Fin 2 → ℕ} {inb : ∀ a, off a + S256x512.size a ≤ S512x512.size a} (hoff : off = ![256 * n, 0]) {w : Vec F S256x512 .bf16}
    (hw : ∀ (r : Fin 256) (j : Fin 512) (h : 256 * n + r.val < 512), w (ix2 r j) = v (ix2 ⟨256 * n + r.val, h⟩ j))
    {hx : (oM.access (Rect.unit (s := S512x512) off S256x512.size inb)).Stores Finset.univ}
    {hm : (Finset.univ : Finset (Rect.unit (s := S512x512) off S256x512.size inb).shape.Idx) = Finset.univ ∨ ∀ a, (Rect.unit (s := S512x512) off S256x512.size inb).stride a = 1} {α : Type} {Q : α → sProp 𝕄}
    {k : PUnit → Prog (TpuEff nD τ sig (Elt F) Λ₀ .tc) α} :
    (outP c v n : sProp 𝕄)
      ⊢ iprop((outP c v (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S512x512) off S256x512.size inb) w Finset.univ hx hm) k) Q) := by
  subst hoff
  unfold outP
  iintro ⟨%f, %hf, H⟩ Hk
  iapply (wp_store 𝒱₀ (c : Thread nD τ) none Set.univ (m := oM) (hx := hx) (hm := hm) (Mk := Finset.univ) (f := f) (Finset.subset_univ _)) $$ H
  iintro H
  iapply Hk
  iexists ((oM.access (Rect.unit (s := S512x512) ![256 * n, 0] S256x512.size inb)).write (Elt F) f w Finset.univ)
  isplitr
  · ipureintro
    intro r j h2
    by_cases h3 : 256 * n ≤ r.val
    · have hj : r.val - 256 * n < 256 := by omega
      have e := hw ⟨r.val - 256 * n, hj⟩ j (by have := r.isLt; change 256 * n + (r.val - 256 * n) < 512; omega)
      refine (View.read_writes_cons_unit_of_mem oM.view f inb w []
        (ix2 r j) (ix2 ⟨r.val - 256 * n, hj⟩ j) rfl fun a => ?_).trans (e.trans (congrArg v (funext fun a => ?_)))
      · match a with
        | ⟨0, _⟩ => change r.val = 256 * n + (r.val - 256 * n); omega
        | ⟨1, _⟩ => change j.val = 0 + j.val; omega
      · match a with
        | ⟨0, _⟩ => exact Fin.ext (by change 256 * n + (r.val - 256 * n) = r.val; omega)
        | ⟨1, _⟩ => rfl
    · refine (View.read_writes_cons_unit_of_not_mem oM.view f inb w []
        (ix2 r j) rfl 0 (Or.inl ?_)).trans (hf r j (by omega))
      change r.val < 256 * n; omega
  · iexact H

/-! ## The pieces are parts of the whole -/

theorem packV_ctx (B : Blk F) (M : IVec S256x256 1) (b : Fin 2) (n : Fin 4) (r : Fin 256) (j : Fin 64) (h : 64 * n.val + j.val < 256) :
    shapeCast S1x256x64 (ctxPart n M (kRows B b) (vRows B b) (qRows B b)) shapeCasts_S256x64_S1x256x64 (ix3 0 r j)
      = packV B M b (ix2 ⟨r.val, by omega⟩ ⟨64 * n.val + j.val, h⟩) := by
  refine (shapeCast_addUnit_apply _ _ _ _).trans ?_
  unfold packV
  have hr : ((ix2 (n0 := 260) (n1 := 256) ⟨r.val, by omega⟩ ⟨64 * n.val + j.val, h⟩ : S260x256.Idx) 0).val < 256 := r.isLt
  rw [dif_pos hr]
  have hn : (⟨(64 * n.val + j.val) / 64, by omega⟩ : Fin 4) = n := Fin.ext (by change (64 * n.val + j.val) / 64 = n.val; omega)
  have hj : (⟨(64 * n.val + j.val) % 64, Nat.mod_lt _ (by decide)⟩ : Fin 64) = j := Fin.ext (by change (64 * n.val + j.val) % 64 = j.val; omega)
  refine Eq.trans ?_ (congrArg₂ (fun (n' : Fin 4) (j' : Fin 64) => ctxPart n' M (kRows B b) (vRows B b) (qRows B b) (ix2 r j')) hn hj).symm
  exact congrArg _ (funext fun a => match a with | ⟨0, _⟩ => rfl | ⟨1, _⟩ => rfl)

theorem packV_den (B : Blk F) (M : IVec S256x256 1) (b : Fin 2) (n : Fin 4) (j : Fin 256) (h : 256 + n.val < 260) :
    shapeCast S1x1x256 (denPart n M (kRows B b) (qRows B b)) shapeCasts_S1x256_S1x1x256 (ix3 0 0 j)
      = packV B M b (ix2 ⟨256 + n.val, h⟩ j) := by
  refine (shapeCast_addUnit_apply _ _ _ _).trans ?_
  unfold packV
  have hr : ¬ ((ix2 (n0 := 260) (n1 := 256) ⟨256 + n.val, h⟩ j : S260x256.Idx) 0).val < 256 := by change ¬ 256 + n.val < 256; omega
  rw [dif_neg hr]
  have hn : (⟨256 + n.val - 256, by omega⟩ : Fin 4) = n := Fin.ext (by change 256 + n.val - 256 = n.val; omega)
  refine Eq.trans ?_ (congrArg (fun (n' : Fin 4) => denPart n' M (kRows B b) (qRows B b) (ix2 0 j)) hn).symm
  exact congrArg _ (funext fun a => match a with | ⟨0, _⟩ => rfl | ⟨1, _⟩ => rfl)

theorem ctxRows_head (T : FVec F S260x256 .bf16) (n : Fin 4) (r : Fin 256) (j : Fin 64) (h : 64 * n.val + j.val < 256) :
    ctxHead T n (ix2 r j) = ctxRows T (ix2 r ⟨64 * n.val + j.val, h⟩) := by
  unfold ctxRows
  have hn : (⟨(64 * n.val + j.val) / 64, by omega⟩ : Fin 4) = n := Fin.ext (by change (64 * n.val + j.val) / 64 = n.val; omega)
  have hj : (⟨(64 * n.val + j.val) % 64, Nat.mod_lt _ (by decide)⟩ : Fin 64) = j := Fin.ext (by change (64 * n.val + j.val) % 64 = j.val; omega)
  exact (congrArg₂ (fun (n' : Fin 4) (j' : Fin 64) => ctxHead T n' (ix2 r j')) hn hj).symm

theorem outAll_rows (A : Dev nD → Blk F) (c : Dev nD) (n : Fin 2) (r : Fin 256) (j : Fin 512) (h : 256 * n.val + r.val < 512) :
    outRows A c n (ix2 r j) = outAll A c (ix2 ⟨256 * n.val + r.val, h⟩ j) := by
  unfold outAll
  have hn : (⟨(256 * n.val + r.val) / 256, by omega⟩ : Fin 2) = n := Fin.ext (by change (256 * n.val + r.val) / 256 = n.val; omega)
  have hj : (⟨(256 * n.val + r.val) % 256, Nat.mod_lt _ (by decide)⟩ : Fin 256) = r := Fin.ext (by change (256 * n.val + r.val) % 256 = r.val; omega)
  exact (congrArg₂ (fun (n' : Fin 2) (j' : Fin 256) => outRows A c n' (ix2 j' j)) hn hj).symm

end Cert.Butterfly

end
-- ==== Proof.Steps.lean ====
/-
# The protocol's steps

Every device's cells are known to all (`records`); a signal, a transfer or a wait then takes only what it spends.
-/
module

public import proofs.«01_k».proof.Proof.Stage
public import Idealize.ShloMosaic.Lib.MemrefSat

@[expose] public section

noncomputable section

namespace Cert.Butterfly

open Cert.KernelIdeal Cert.KernelIdeal.Gen

open Idealize.ShloMosaic hiding ix1 ix2 ix3 ix4 eq_ix1 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Blk F)

abbrev CIdx : Type := Dev nD × Option XIdx

/-- Every cell's invariant, at the names `K`, and that every cell has reached round 0. -/
def records (K : CIdx → ℕ) : sProp 𝕄 :=
  iprop((bigSep Finset.univ fun ck : CIdx => cellInv ER (Rd A) (K ck) (kcell ck)) ∗ bigSep Finset.univ fun ck : CIdx => reached ER (kcell ck) 0)

instance records_persistent (K : CIdx → ℕ) : BI.Persistent (records A K) := by unfold records; infer_instance

theorem inv_at (K : CIdx → ℕ) (ck : CIdx) : records A K ⊢ cellInv ER (Rd A) (K ck) (kcell ck) := by
  unfold records; exact sep_elim_left.trans (bigSep_elim (Finset.mem_univ ck))
theorem reached_at (K : CIdx → ℕ) (ck : CIdx) : (records A K : sProp 𝕄) ⊢ reached ER (kcell ck) 0 := by
  unfold records; exact sep_elim_right.trans (bigSep_elim (Finset.mem_univ ck))

/-- What core `c` owes, whatever it waited on before. -/
def owesE (c : Dev nD) (O : CellTallies nD τ sig Unit) : sProp 𝕄 := iprop(∃ W, owes (c : Thread nD τ) O W)

/-- A source slice is its two halves. -/
theorem halves (p : Fin 2) (c : Dev nD) (b : Fin 2) : (bPts (srcM p) c b fullShare (sent A p c b) : sProp 𝕄)
    ⊣⊢ iprop(bPts (srcM p) c b fullShare.left (sent A p c b) ∗ bPts (srcM p) c b fullShare.right (sent A p c b)) :=
  owns_halves (c : Thread nD τ) (slM (srcM p) b) fullShare (sent A p c b)

variable (K : CIdx → ℕ)

section Rules
/-- The signal to the partner in direction `d` hands over the two landing slices that partner sends to. -/
theorem signal_step (c n : Dev nD) (d : Fin 2) (hn : n = par d c) {x : ℕ} (hx : x = 1) (O : CellTallies nD τ sig Unit) {α : Type} {Q : α → sProp 𝕄} {k : PUnit → Prog (TpuEff nD τ sig (Elt F) Λ₀ .tc) α} :
    iprop(records A K ∗ owesE c (O + tallyAt (barCell (par d c)) () 1) ∗ dutyTok ER (barCell (par d c)) 0 d
        ∗ (∃ v, bPts (dstM 0) c d fullShare v) ∗ ∃ v, bPts (dstM 1) c (1 + d) fullShare v)
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS x) k) Q) := by
  subst hn hx
  unfold owesE
  iintro ⟨#HR, ⟨%W, HO⟩, Htok, H0, H1⟩ Hk
  iapply (Rounds.wp_signal 𝒱₀ ER (Rd A) (c : Thread nD τ) none (dst := ((par d c : Dev nD) : Thread nD τ)) (κ := K (par d c, none)) (d := d)
      (by rw [duties_bar]; exact Finset.mem_univ _) (amount_bar A (par d c) d) () O rfl) $$ [HO Htok H0 H1]
  · isplitr; · iapply (inv_at A K (par d c, none)); iexact HR
    isplitl [HO]; · iexact HO
    isplitl [Htok]; · iexact Htok
    isplitl [H0 H1]
    · rw [payload_bar]; unfold barPay; rw [par_par]
      isplitl [H0 H1]
      · isplitl [H0]; · iexact H0
        iexact H1
      isplitr; · iapply (reached_at A K (c, some (0, 1, d))); iexact HR
      iapply (reached_at A K (c, some (1, 1, 1 + d))); iexact HR
    · iapply (reached_at A K (par d c, none)); iexact HR
  iintro HO
  iapply Hk
  iexists W; iexact HO

/-- The wait for both partners' signals. -/
theorem barrier_step (c : Dev nD) {x : ℕ} (hx : x = 2) (O : CellTallies nD τ sig Unit) (hO : Above 1 O) {α : Type} {Q : α → sProp 𝕄} {k : PUnit → Prog (TpuEff nD τ sig (Elt F) Λ₀ .tc) α} :
    iprop(records A K ∗ levAts L lv ∗ cred (tallyAt (barCell c) () 2) ∗ owesE c O ∗ atPos ER (barCell c) 0 ∅ 0)
      ⊢ iprop((iprop(owesE c O ∗ semVal (barCell c) 0 ∗ barPay 0 c ∗ barPay 1 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS x) k) Q) := by
  subst hx
  unfold owesE
  iintro ⟨#HR, #HL, Hc, ⟨%W, HO⟩, Hat⟩ Hk
  iapply (Rounds.wp_wait_rest_token 𝒱₀ ER (Rd A) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hat]
  · isplitr; · iapply (inv_at A K (c, none)); iexact HR
    isplitl [Hc]; · iexact Hc
    isplitl [HO]; · iexact HO
    isplitr; · iapply (mayWait_above c (.reg barS) 1 (by rw [lv_bar]) O hO); iexact HL
    iexact Hat
  iintro ⟨HO, Hat, -, Hpay⟩
  ihave Hp := (Entails.of_eq (rest_bar A c)) $$ Hpay
  icases Hp with ⟨Hp0, Hp1⟩
  imod (Rounds.cell_close ER (Rd A) (Set.mem_univ (K (c, none))) (fun h => h) (R := 0 + 1) (duties_later A (barCell c))) $$ [Hat] with Hz
  · isplitr; · iapply (inv_at A K (c, none)); iexact HR
    iexact Hat
  iapply Hk
  isplitl [HO]; · iexists _; iexact HO
  isplitl [Hz]; · iexact Hz
  isplitl [Hp0] <;> iassumption

/-- Phase `p`'s transfer of batch `b`: half of the source slice's share stays with the sender. -/
theorem send_step (p b : Fin 2) (c n : Dev nD) (hn : n = peer p b c)
    {src dst : Memref sig .tc .vmem S260x256 .bf16} (hs : src = slM (srcM p) b) (hd : dst = slM (dstM p) b)
    {sS sR : DmaSem sig} (hS : sS = xsem p 0 b) (hR : sR = xsem p 1 b)
    {hsc : (dst : Memref sig (Dev.tc n : Thread nD τ).2.kind .vmem S260x256 .bf16).view.ref.isScScratch = false}
    {hsrc : src.view.WordExact} {hdst : dst.view.WordExact}
    {hsem : DmaTarget.Typed .vmem (.dma sR) (.remote (Dev.tc n : Thread nD τ) (dst : Memref sig .tc .vmem S260x256 .bf16) (.dma sS) hsc)}
    (O : CellTallies nD τ sig Unit) {α : Type} {Q : α → sProp 𝕄} {k : PUnit → Prog (TpuEff nD τ sig (Elt F) Λ₀ .tc) α} :
    iprop(records A K ∗ bPts (srcM p) c b fullShare (sent A p c b) ∗ (∃ v, bPts (dstM p) (peer p b c) b fullShare v)
        ∗ owesE c (O + oR p b c) ∗ dutyTok ER (xCell p 0 b c) 0 0 ∗ dutyTok ER (xCell p 1 b (peer p b c)) 0 0)
      ⊢ iprop((iprop(bPts (srcM p) c b fullShare.left (sent A p c b) ∗ cred (tallyAt (xCell p 0 b c) () N) ∗ owesE c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hs hd hS hR
  iintro ⟨#HR, Hsrc, ⟨%v, Hdst⟩, HO, Ht1, Ht2⟩ Hk
  unfold owesE
  icases HO with ⟨%W, HO⟩
  ihave Hsrc := (halves A p c b).1 $$ Hsrc
  icases Hsrc with ⟨Hl, Hr⟩
  unfold bPts owns
  icases Hr with ⟨%fs, %hfs, Hr⟩
  icases Hdst with ⟨%fd, %hfd, Hdst⟩
  iapply (Rounds.wp_send_pointsTo 𝒱₀ ER (Rd A) (c : Thread nD τ) none (κ₁ := K (c, some (p, 0, b))) (κ₂ := K (peer p b c, some (p, 1, b)))
      (c' := ((peer p b c : Dev nD) : Thread nD τ)) (src := slM (srcM p) b) (dst := slM (dstM p) b)
      (r₁ := 0) (r₂ := 0) (d₁ := 0) (d₂ := 0) (fs := fs) (fd := fd)
      (by rw [duties_x]; exact Finset.mem_singleton_self _) (by rw [duties_x]; exact Finset.mem_singleton_self _)
      () () N (by fin_cases p <;> fin_cases b <;> rfl) (amount_x A c p 0 b 0) (amount_x A (peer p b c) p 1 b 0) O rfl (W := W)
      (by rw [payload_send]; unfold sendPay bPts; rw [← hfs]; exact owns_intro (c : Thread nD τ) (slM (srcM p) b) fullShare.right fs)
      (by
        rw [payload_recv]; unfold recvPay bPts
        rw [show peer p b (peer p b c) = c from par_par _ _, ← hfs]
        refine (owns_intro ((peer p b c : Dev nD) : Thread nD τ) (slM (dstM p) b) fullShare _).trans (Entails.of_eq ?_)
        rw [View.read_write_univ])) $$ [Hr Hdst HO Ht1 Ht2]
  · isplitr; · iapply (inv_at A K (c, some (p, 0, b))); iexact HR
    isplitr; · iapply (inv_at A K (peer p b c, some (p, 1, b))); iexact HR
    isplitl [Hr]; · iexact Hr
    isplitl [Hdst]; · iexact Hdst
    isplitl [HO]; · iexact HO
    isplitl [Ht1]; · iexact Ht1
    isplitr; · iapply (reached_at A K (c, some (p, 0, b))); iexact HR
    isplitl [Ht2]; · iexact Ht2
    iapply (reached_at A K (peer p b c, some (p, 1, b))); iexact HR
  iintro ⟨Hc, HO⟩
  iapply Hk
  isplitl [Hl]; · iexact Hl
  isplitl [Hc]; · iexact Hc
  iexists W; iexact HO

/-- The wait for phase `p`'s batch `b` to land. -/
theorem recv_step (p b : Fin 2) (c : Dev nD) {src dst : Memref sig .tc .vmem S260x256 .bf16} (hd : dst = slM (dstM p) b)
    {sR : DmaSem sig} (hR : sR = xsem p 1 b) {hsrc : src.view.WordExact} {hdst : dst.view.WordExact}
    (O : CellTallies nD τ sig Unit) (hO : Above (2 + p.val) O) {α : Type} {Q : α → sProp 𝕄} {k : PUnit → Prog (TpuEff nD τ sig (Elt F) Λ₀ .tc) α} :
    iprop(records A K ∗ levAts L lv ∗ cred (tallyAt (xCell p 1 b c) () N) ∗ owesE c O ∗ atPos ER (xCell p 1 b c) 0 ∅ 0)
      ⊢ iprop((iprop(owesE c O ∗ semVal (xCell p 1 b c) 0 ∗ bPts (dstM p) c b fullShare (sent A p (peer p b c) b))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hd hR
  unfold owesE
  iintro ⟨#HR, #HL, Hc, ⟨%W, HO⟩, Hat⟩ Hk
  have hN : (slM (dstM p) b).view.dmaCredit = N := by fin_cases p <;> fin_cases b <;> rfl
  iapply (Rounds.wp_wait_rest_token 𝒱₀ ER (Rd A) (c : Thread nD τ) none (κ := K (c, some (p, 1, b))) (k' := N)
      (fun K' => (wpE_waitDma2_eq 𝒱₀ (c : Thread nD τ) none Set.univ K').trans (by rw [hN])) (Set.mem_univ _) () (O := O) (W := W) (R := 0) (m := 0) (T := ∅)
      (by rw [Nat.zero_add, expect_x])) $$ [Hc HO Hat]
  · isplitr; · iapply (inv_at A K (c, some (p, 1, b))); iexact HR
    isplitl [Hc]; · iexact Hc
    isplitl [HO]; · iexact HO
    isplitr; · iapply (mayWait_above c (.dma (xsem p 1 b)) (2 + p.val) (by rw [lv_recv]) O hO); iexact HL
    iexact Hat
  iintro ⟨HO, Hat, -, Hpay⟩
  ihave Hp := (Entails.of_eq (rest_recv A c p b)) $$ Hpay
  imod (Rounds.cell_close ER (Rd A) (Set.mem_univ (K (c, some (p, 1, b)))) (fun h => h) (R := 0 + 1) (duties_later A (xCell p 1 b c))) $$ [Hat] with Hz
  · isplitr; · iapply (inv_at A K (c, some (p, 1, b))); iexact HR
    iexact Hat
  iapply Hk
  isplitl [HO]; · iexists _; iexact HO
  isplitl [Hz]; · iexact Hz
  unfold recvPay; iexact Hp

/-- The wait for phase `p`'s batch `b` to have been sent: the source slice is whole again. -/
theorem sent_step (p b : Fin 2) (c : Dev nD) {src dst : Memref sig .tc .vmem S260x256 .bf16} (hd : dst = slM (srcM p) b)
    {sS : DmaSem sig} (hS : sS = xsem p 0 b) {hsrc : src.view.WordExact} {hdst : dst.view.WordExact} {α : Type} {Q : α → sProp 𝕄} {k : PUnit → Prog (TpuEff nD τ sig (Elt F) Λ₀ .tc) α} :
    iprop(records A K ∗ cred (tallyAt (xCell p 0 b c) () N) ∗ owesE c 0 ∗ atPos ER (xCell p 0 b c) 0 ∅ 0
        ∗ bPts (srcM p) c b fullShare.left (sent A p c b))
      ⊢ iprop((iprop(owesE c 0 ∗ semVal (xCell p 0 b c) 0 ∗ bPts (srcM p) c b fullShare (sent A p c b))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hd hS
  unfold owesE
  iintro ⟨#HR, Hc, ⟨%W, HO⟩, Hat, Hl⟩ Hk
  have hN : (slM (srcM p) b).view.dmaCredit = N := by fin_cases p <;> fin_cases b <;> rfl
  iapply (Rounds.wp_wait_rest_token 𝒱₀ ER (Rd A) (c : Thread nD τ) none (κ := K (c, some (p, 0, b))) (k' := N)
      (fun K' => (wpE_waitDma2_eq 𝒱₀ (c : Thread nD τ) none Set.univ K').trans (by rw [hN])) (Set.mem_univ _) () (O := 0) (W := W) (R := 0) (m := 0) (T := ∅)
      (by rw [Nat.zero_add, expect_x])) $$ [Hc HO Hat]
  · isplitr; · iapply (inv_at A K (c, some (p, 0, b))); iexact HR
    isplitl [Hc]; · iexact Hc
    isplitl [HO]; · iexact HO
    isplitr; · rw [MayWait_zero]; iempintro
    iexact Hat
  iintro ⟨HO, Hat, -, Hpay⟩
  ihave Hp := (Entails.of_eq (rest_send A c p b)) $$ Hpay
  imod (Rounds.cell_close ER (Rd A) (Set.mem_univ (K (c, some (p, 0, b)))) (fun h => h) (R := 0 + 1) (duties_later A (xCell p 0 b c))) $$ [Hat] with Hz
  · isplitr; · iapply (inv_at A K (c, some (p, 0, b))); iexact HR
    iexact Hat
  iapply Hk
  isplitl [HO]; · iexists _; iexact HO
  isplitl [Hz]; · iexact Hz
  unfold sendPay
  iapply (halves A p c b).2
  isplitl [Hl] <;> iassumption

end Rules

end Cert.Butterfly

end
-- ==== Proof.Parts.lean ====
/-
# The body's parts

Each part of the kernel's body, run at a symbolic device on the launch's buffers: what it takes and what it leaves.
-/
module

public import proofs.«01_k».proof.Proof.Steps

@[expose] public section

noncomputable section

namespace Cert.Butterfly

open Cert.KernelIdeal Cert.KernelIdeal.Gen

open Idealize.ShloMosaic hiding ix1 ix2 ix3 ix4 eq_ix1 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part on the launch's buffers and semaphores. -/
abbrev call {β : Type 1} (f : (a0 : Memref sig .tc .vmem S512x512 .bf16) → a0.IsWhole → (a1 : Memref sig .tc .vmem S512x256 .bf16) → a1.IsWhole → (a2 : Memref sig .tc .vmem S2x256x256 .bf16) → a2.IsWhole → (a3 : Memref sig .tc .vmem S2x256x256 .bf16) → a3.IsWhole → (a4 : Memref sig .tc .vmem S256x512 .bf16) → a4.IsWhole → (a5 : Memref sig .tc .vmem S512x512 .bf16) → a5.IsWhole → (a6 : Memref sig .tc .vmem S2x260x256 .bf16) → a6.IsWhole → (a7 : Memref sig .tc .vmem S2x260x256 .bf16) → a7.IsWhole → (a8 : Memref sig .tc .vmem S2x260x256 .bf16) → a8.IsWhole → (a9 : Memref sig .tc .vmem S2x260x256 .bf16) → a9.IsWhole → (a10 : Memref sig .tc .vmem S512x256 .bf16) → a10.IsWhole → DmaSems sig S2 → DmaSems sig S2 → DmaSems sig S2 → DmaSems sig S2 → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8

/-- The staged operands. -/
abbrev xM : Memref sig .tc .vmem S512x512 .bf16 := Memref.whole cc0_stg0_0
abbrev wM : Memref sig .tc .vmem S512x256 .bf16 := Memref.whole cc0_stg1_0
abbrev kM : Memref sig .tc .vmem S2x256x256 .bf16 := Memref.whole cc0_stg2_0
abbrev vM : Memref sig .tc .vmem S2x256x256 .bf16 := Memref.whole cc0_stg3_0
abbrev woM : Memref sig .tc .vmem S256x512 .bf16 := Memref.whole cc0_stg4_0

variable (A : Dev nD → Blk F) (K : CIdx → ℕ) (c : Dev nD)

/-- The words the body computes from a device's number: itself, its neighbour, the device opposite. -/
abbrev w2 : BitVec 32 := Scalar.remsi (Scalar.divsi (Dev.word c) 1#32) 4#32
abbrev w3 : BitVec 32 := Scalar.xori (w2 c) 1#32
abbrev w4 : BitVec 32 := Scalar.subi 3#32 (w2 c)

/-- A staged block read at a rectangle, the value named. -/
theorem load_as {s : Shape} {e : EltTy} (M : Memref sig .tc .vmem s e) (X : s.Idx → Elt F e) (r : Rect s) (v : r.toLoadRect.shape.Idx → Elt F e)
    (hv : (fun i => X (r.emb i)) = v)
    {hl : M.view.LoadsAt r.toLoadRect} {α : Type} {Q : α → sProp 𝕄}
    {k : (r.toLoadRect.shape.Idx → Elt F e) → Prog (TpuEff nD τ sig (Elt F) Λ₀ .tc) α} :
    (owns (c : Thread nD τ) M fullShare X : sProp 𝕄)
      ⊢ iprop((owns (c : Thread nD τ) M fullShare X -∗ wp frame (wpE (defs₀ (F := F)) 𝒱₀ (c : Thread nD τ) none) Set.univ (k v) Q)
          -∗ wp frame (wpE (defs₀ (F := F)) 𝒱₀ (c : Thread nD τ) none) Set.univ
              (.op (.load M r.toLoadRect hl) k) Q) := by
  subst hv
  exact load_block M c X r

/-- A whole buffer's rectangle is read as the buffer. -/
theorem whole_emb {n m : ℕ} {β : Type} (X : (⟨2, ![n, m]⟩ : Shape).Idx → β) (inb : ∀ a, (![0, 0] : Fin 2 → ℕ) a + (⟨2, ![n, m]⟩ : Shape).size a ≤ (⟨2, ![n, m]⟩ : Shape).size a) :
    (fun i => X ((Rect.unit (s := ⟨2, ![n, m]⟩) ![0, 0] (⟨2, ![n, m]⟩ : Shape).size inb).emb i)) = X :=
  funext fun i => congrArg X (funext fun a => by
    match a with
    | ⟨0, _⟩ => exact Fin.ext (by change 0 + 1 * (i 0).val = (i 0).val; omega)
    | ⟨1, _⟩ => exact Fin.ext (by change 0 + 1 * (i 1).val = (i 1).val; omega))

section Sums
variable (a b : FVec F S260x256 .bf16)
/-- The sums stored and returned after the first exchange. -/
theorem pay42_eq : k0_pay42 (shapeCast S1x260x256 a shapeCasts_S260x256_S1x260x256) (shapeCast S1x260x256 b shapeCasts_S260x256_S1x260x256) = addf a b :=
  congrArg₂ addf (shapeCast_shapeCast _ _ _) (shapeCast_shapeCast _ _ _)
theorem pay43_eq : k0_pay43 (shapeCast S1x260x256 a shapeCasts_S260x256_S1x260x256) (shapeCast S1x260x256 b shapeCasts_S260x256_S1x260x256)
    = shapeCast S1x260x256 (addf a b) shapeCasts_S260x256_S1x260x256 :=
  congrArg (fun v => shapeCast S1x260x256 v shapeCasts_S260x256_S1x260x256) (pay42_eq a b)
theorem pay44_eq : k0_pay44 (shapeCast S1x260x256 a shapeCasts_S260x256_S1x260x256) (shapeCast S1x260x256 b shapeCasts_S260x256_S1x260x256) = addf a b :=
  congrArg₂ addf (shapeCast_shapeCast _ _ _) (shapeCast_shapeCast _ _ _)
theorem pay45_eq : k0_pay45 (shapeCast S1x260x256 a shapeCasts_S260x256_S1x260x256) (shapeCast S1x260x256 b shapeCasts_S260x256_S1x260x256)
    = shapeCast S1x260x256 (addf a b) shapeCasts_S260x256_S1x260x256 :=
  congrArg (fun v => shapeCast S1x260x256 v shapeCasts_S260x256_S1x260x256) (pay44_eq a b)
end Sums

set_option maxHeartbeats 1000000 in
/-- The two signals, and the query weights read. -/
theorem part1_run {Q : _ → sProp 𝕄} :
    iprop(records A K ∗ owesE c (O₀ c) ∗ dutyTok ER (barCell (par 0 c)) 0 0 ∗ dutyTok ER (barCell (par 1 c)) 0 1
        ∗ (∃ v, bPts (dstM 0) c 0 fullShare v) ∗ (∃ v, bPts (dstM 0) c 1 fullShare v)
        ∗ (∃ v, bPts (dstM 1) c 0 fullShare v) ∗ (∃ v, bPts (dstM 1) c 1 fullShare v)
        ∗ owns (c : Thread nD τ) wM fullShare (A c).W)
      ⊢ iprop((iprop(owesE c (O₄ c) ∗ owns (c : Thread nD τ) wM fullShare (A c).W)
            -∗ Q ⟨c, w2 c, w3 c, w4 c, SemArray.scalar (sig.barrier 0 rfl), k0_pay1 (A c).W, k0_pay2, iota .tc S256x256 32 [1] iota_S256x256_d1_w32⟩)
          -∗ wp frame (wpE (defs₀ (F := F)) 𝒱₀ (c : Thread nD τ) none) Set.univ (call (k0_part1 (F := F))) Q) := by
  unfold call
  rw [k0_part1_eq_skeleton]; unfold k0_part1_skel
  simp only [semSignalWord, semWaitWord, Prog.lift, Prog.bind_op, Prog.bind_ret, Prog.pure_eq_ret, wp_deviceId]
  iintro ⟨#HR, HO, Ht0, Ht1, H00, H01, H10, H11, Hw⟩ Hk
  iapply (signal_step A K c _ 0 (dev1_eq c) rfl (O₅ c)) $$ [HO Ht0 H00 H11]
  · isplitr; · iexact HR
    isplitl [HO]; · iexact HO
    isplitl [Ht0]; · iexact Ht0
    isplitl [H00]; · iexact H00
    iexact H11
  iintro HO
  iapply (signal_step A K c _ 1 (dev2_eq c) rfl (O₄ c)) $$ [HO Ht1 H01 H10]
  · isplitr; · iexact HR
    isplitl [HO]; · iexact HO
    isplitl [Ht1]; · iexact Ht1
    isplitl [H01]; · iexact H01
    iexact H10
  iintro HO
  iapply (load_as c wM (A c).W (Rect.unit (s := S512x256) ![0, 0] S512x256.size inb_S512x256_S512x256_0_0) (A c).W (whole_emb _ _)) $$ Hw
  iintro Hw
  rw [wp_ret]; imodintro
  iapply Hk
  isplitl [HO] <;> iassumption

set_option maxHeartbeats 1000000 in
/-- The mask, and the first batch's keys and values. -/
theorem part2_run {Q : _ → sProp 𝕄} :
    iprop(owns (c : Thread nD τ) kM fullShare (A c).K ∗ owns (c : Thread nD τ) vM fullShare (A c).V)
      ⊢ iprop((iprop(owns (c : Thread nD τ) kM fullShare (A c).K ∗ owns (c : Thread nD τ) vM fullShare (A c).V)
            -∗ Q ⟨maskAt c, k0_pay4, kRows (A c) 0, vRows (A c) 0⟩)
          -∗ wp frame (wpE (defs₀ (F := F)) 𝒱₀ (c : Thread nD τ) none) Set.univ
            (call (k0_part2 (F := F)) (w2 c) k0_pay2 (iota .tc S256x256 32 [1] iota_S256x256_d1_w32)) Q) := by
  unfold call
  rw [k0_part2_eq_skeleton]; unfold k0_part2_skel
  simp only [Prog.lift, Prog.bind_op, Prog.bind_ret, Prog.pure_eq_ret]
  iintro ⟨Hkk, Hv⟩ Hk
  iapply (load_as c kM (A c).K (Rect.unit (s := S2x256x256) ![0, 0, 0] S1x256x256.size inb_S2x256x256_S1x256x256_0_0_0) (kLoad (A c) 0) rfl) $$ Hkk
  iintro Hkk
  iapply (load_as c vM (A c).V (Rect.unit (s := S2x256x256) ![0, 0, 0] S1x256x256.size inb_S2x256x256_S1x256x256_0_0_0) (vLoad (A c) 0) rfl) $$ Hv
  iintro Hv
  rw [wp_ret, show k0_pay5 (kLoad (A c) 0) = kRows (A c) 0 from rfl, show k0_pay6 (vLoad (A c) 0) = vRows (A c) 0 from rfl,
    show k0_pay3 (w2 c) k0_pay2 (iota .tc S256x256 32 [1] iota_S256x256_d1_w32) = maskAt c from rfl]; imodintro
  iapply Hk
  isplitl [Hkk] <;> iassumption

set_option maxHeartbeats 1000000 in
/-- The first batch's queries, and its first head's context and denominators packed. -/
theorem part3_run {Q : _ → sProp 𝕄} :
    iprop(owns (c : Thread nD τ) xM fullShare (A c).X ∗ packP (srcM 0) c 0 (own0 A c 0) 0 0)
      ⊢ iprop((iprop(owns (c : Thread nD τ) xM fullShare (A c).X ∗ packP (srcM 0) c 0 (own0 A c 0) 1 1)
            -∗ Q ⟨qRows (A c) 0, k0_pay12 (k0_pay1 (A c).W) (maskAt c) k0_pay4 (kRows (A c) 0) (xRows (A c) 0), k0_pay13 (k0_pay1 (A c).W) (maskAt c) (kRows (A c) 0) (vRows (A c) 0) (xRows (A c) 0)⟩)
          -∗ wp frame (wpE (defs₀ (F := F)) 𝒱₀ (c : Thread nD τ) none) Set.univ
            (call (k0_part3 (F := F)) (k0_pay1 (A c).W) (maskAt c) k0_pay4 (kRows (A c) 0) (vRows (A c) 0)) Q) := by
  unfold call
  rw [k0_part3_eq_skeleton]; unfold k0_part3_skel
  simp only [Prog.lift, Prog.bind_op, Prog.bind_ret, Prog.pure_eq_ret]
  iintro ⟨Hx, Hp⟩ Hk
  iapply (load_as c xM (A c).X (Rect.unit (s := S512x512) ![0, 0] S256x512.size inb_S512x512_S256x512_0_0) (xRows (A c) 0) rfl) $$ Hx
  iintro Hx
  iapply (pack_load (srcM 0) c 0 (own0 A c 0) 0 0 rfl rfl) $$ Hp
  iintro %x0 Hp
  iapply (pack_store_ctx (srcM 0) c 0 (own0 A c 0) 0 0 rfl (packV_ctx (A c) (maskAt c) 0 0)) $$ Hp
  iintro Hp
  iapply (pack_load (srcM 0) c 0 (own0 A c 0) 1 0 rfl rfl) $$ Hp
  iintro %x1 Hp
  iapply (pack_store_den (srcM 0) c 0 (own0 A c 0) 1 0 0 0 rfl (by decide) rfl rfl (packV_den (A c) (maskAt c) 0 0)) $$ Hp
  iintro Hp
  iapply (pack_load (srcM 0) c 0 (own0 A c 0) 1 1 rfl rfl) $$ Hp
  iintro %x2 Hp
  rw [wp_ret, show k0_pay7 (k0_pay1 (A c).W) (xRows (A c) 0) = qRows (A c) 0 from rfl]; imodintro
  iapply Hk
  isplitl [Hx] <;> iassumption

set_option maxHeartbeats 1000000 in
/-- The first batch's second and third heads packed. -/
theorem part4_run {Q : _ → sProp 𝕄} :
    iprop(packP (srcM 0) c 0 (own0 A c 0) 1 1)
      ⊢ iprop((iprop(packP (srcM 0) c 0 (own0 A c 0) 3 3)
            -∗ Q ⟨k0_pay20 (maskAt c) k0_pay4 (kRows (A c) 0) (qRows (A c) 0), k0_pay21 (maskAt c) (kRows (A c) 0) (vRows (A c) 0) (qRows (A c) 0)⟩)
          -∗ wp frame (wpE (defs₀ (F := F)) 𝒱₀ (c : Thread nD τ) none) Set.univ
            (call (k0_part4 (F := F)) (maskAt c) k0_pay4 (kRows (A c) 0) (vRows (A c) 0) (qRows (A c) 0) (k0_pay12 (k0_pay1 (A c).W) (maskAt c) k0_pay4 (kRows (A c) 0) (xRows (A c) 0)) (k0_pay13 (k0_pay1 (A c).W) (maskAt c) (kRows (A c) 0) (vRows (A c) 0) (xRows (A c) 0))) Q) := by
  unfold call
  rw [k0_part4_eq_skeleton]; unfold k0_part4_skel
  simp only [semSignalWord, semWaitWord, Prog.lift, Prog.bind_op, Prog.bind_ret, Prog.pure_eq_ret]
  iintro Hp Hk
  iapply (pack_store_ctx (srcM 0) c 0 (own0 A c 0) 1 1 rfl (packV_ctx (A c) (maskAt c) 0 1)) $$ Hp
  iintro Hp
  iapply (pack_load (srcM 0) c 0 (own0 A c 0) 2 1 rfl rfl) $$ Hp
  iintro %y1 Hp
  iapply (pack_store_den (srcM 0) c 0 (own0 A c 0) 2 1 0 1 rfl (by decide) rfl rfl (packV_den (A c) (maskAt c) 0 1)) $$ Hp
  iintro Hp
  iapply (pack_load (srcM 0) c 0 (own0 A c 0) 2 2 rfl rfl) $$ Hp
  iintro %y2 Hp
  iapply (pack_store_ctx (srcM 0) c 0 (own0 A c 0) 2 2 rfl (packV_ctx (A c) (maskAt c) 0 2)) $$ Hp
  iintro Hp
  iapply (pack_load (srcM 0) c 0 (own0 A c 0) 3 2 rfl rfl) $$ Hp
  iintro %y3 Hp
  iapply (pack_store_den (srcM 0) c 0 (own0 A c 0) 3 2 1 0 rfl (by decide) rfl rfl (packV_den (A c) (maskAt c) 0 2)) $$ Hp
  iintro Hp
  iapply (pack_load (srcM 0) c 0 (own0 A c 0) 3 3 rfl rfl) $$ Hp
  iintro %y4 Hp
  rw [wp_ret]; imodintro
  iapply Hk
  iexact Hp

set_option maxHeartbeats 1000000 in
/-- The first batch's last head packed; both partners have signalled; the first batch is sent; the second batch's operands are read. -/
theorem part5_run {Q : _ → sProp 𝕄} :
    iprop(records A K
        ∗ levAts L lv
        ∗ packP (srcM 0) c 0 (own0 A c 0) 3 3
        ∗ cred (tallyAt (barCell c) () 2)
        ∗ owesE c (O₄ c)
        ∗ atPos ER (barCell c) 0 ∅ 0
        ∗ dutyTok ER (xCell 0 0 0 c) 0 0
        ∗ dutyTok ER (xCell 0 1 0 (peer 0 0 c)) 0 0
        ∗ owns (c : Thread nD τ) kM fullShare (A c).K
        ∗ owns (c : Thread nD τ) vM fullShare (A c).V
        ∗ owns (c : Thread nD τ) xM fullShare (A c).X)
      ⊢ iprop((iprop(owesE c (O₃ c)
              ∗ semVal (barCell c) 0
              ∗ bPts (srcM 0) c 0 fullShare.left (sent A 0 c 0)
              ∗ cred (tallyAt (xCell 0 0 0 c) () N)
              ∗ (∃ v, bPts (dstM 0) (peer 0 1 c) 1 fullShare v)
              ∗ (∃ v, bPts (dstM 1) (peer 1 0 c) 0 fullShare v)
              ∗ (∃ v, bPts (dstM 1) (peer 1 1 c) 1 fullShare v)
              ∗ owns (c : Thread nD τ) kM fullShare (A c).K
              ∗ owns (c : Thread nD τ) vM fullShare (A c).V
              ∗ owns (c : Thread nD τ) xM fullShare (A c).X)
            -∗ Q ⟨kRows (A c) 1, vRows (A c) 1, qRows (A c) 1, k0_pay27 (k0_pay1 (A c).W) (kLoad (A c) 1) (xRows (A c) 1), Scalar.ofBits .f32 0x00000000#32⟩)
          -∗ wp frame (wpE (defs₀ (F := F)) 𝒱₀ (c : Thread nD τ) none) Set.univ
            (call (k0_part5 (F := F)) c (w3 c) (SemArray.scalar (sig.barrier 0 rfl)) (k0_pay1 (A c).W) (k0_pay20 (maskAt c) k0_pay4 (kRows (A c) 0) (qRows (A c) 0)) (k0_pay21 (maskAt c) (kRows (A c) 0) (vRows (A c) 0) (qRows (A c) 0))) Q) := by
  unfold call
  rw [k0_part5_eq_skeleton]; unfold k0_part5_skel
  simp only [semSignalWord, semWaitWord, Prog.lift, Prog.bind_op, Prog.bind_ret, Prog.pure_eq_ret]
  iintro ⟨#HR, #HL, Hp, Hc, HO, Ha, Ht1, Ht2, Hkk, Hv, Hx⟩ Hk
  iapply (pack_store_ctx (srcM 0) c 0 (own0 A c 0) 3 3 rfl (packV_ctx (A c) (maskAt c) 0 3)) $$ Hp
  iintro Hp
  iapply (pack_load (srcM 0) c 0 (own0 A c 0) 4 3 rfl rfl) $$ Hp
  iintro %y5 Hp
  iapply (pack_store_den (srcM 0) c 0 (own0 A c 0) 4 3 1 1 rfl (by decide) rfl rfl (packV_den (A c) (maskAt c) 0 3)) $$ Hp
  iintro Hp
  iapply (barrier_step A K c rfl (O₄ c) (above_O₄ c 1 (by decide))) $$ [Hc HO Ha]
  · isplitr; · iexact HR
    isplitr; · iexact HL
    isplitl [Hc]; · iexact Hc
    isplitl [HO]; · iexact HO
    iexact Ha
  iintro ⟨HO, Hz, Hb0, Hb1⟩
  unfold barPay
  icases Hb0 with ⟨⟨Hl00, Hl11⟩, -⟩
  icases Hb1 with ⟨⟨Hl01, Hl10⟩, -⟩
  ihave Hp := (packP_done (srcM 0) c 0 (own0 A c 0)) $$ Hp
  iapply (send_step A K 0 0 c _ (dev3_eq c) rfl rfl rfl rfl (O₃ c)) $$ [Hp Hl00 HO Ht1 Ht2]
  · isplitr; · iexact HR
    isplitl [Hp]; · iexact Hp
    isplitl [Hl00]; · iexact Hl00
    isplitl [HO]; · iexact HO
    isplitl [Ht1]; · iexact Ht1
    iexact Ht2
  iintro ⟨Hp, Hs, HO⟩
  iapply (load_as c kM (A c).K (Rect.unit (s := S2x256x256) ![1, 0, 0] S1x256x256.size inb_S2x256x256_S1x256x256_1_0_0) (kLoad (A c) 1) rfl) $$ Hkk
  iintro Hkk
  iapply (load_as c vM (A c).V (Rect.unit (s := S2x256x256) ![1, 0, 0] S1x256x256.size inb_S2x256x256_S1x256x256_1_0_0) (vLoad (A c) 1) rfl) $$ Hv
  iintro Hv
  iapply (load_as c xM (A c).X (Rect.unit (s := S512x512) ![256, 0] S256x512.size inb_S512x512_S256x512_256_0) (xRows (A c) 1) rfl) $$ Hx
  iintro Hx
  rw [wp_ret, show k0_pay24 (kLoad (A c) 1) = kRows (A c) 1 from rfl, show k0_pay25 (vLoad (A c) 1) = vRows (A c) 1 from rfl, show k0_pay26 (k0_pay1 (A c).W) (xRows (A c) 1) = qRows (A c) 1 from rfl]; imodintro
  iapply Hk
  isplitl [HO]; · iexact HO
  isplitl [Hz]; · iexact Hz
  isplitl [Hp]; · iexact Hp
  isplitl [Hs]; · iexact Hs
  isplitl [Hl01]; · iexact Hl01
  isplitl [Hl10]; · iexact Hl10
  isplitl [Hl11]; · iexact Hl11
  isplitl [Hkk]; · iexact Hkk
  isplitl [Hv]; · iexact Hv
  iexact Hx

set_option maxHeartbeats 1000000 in
/-- The second batch's first two heads packed. -/
theorem part6_run {Q : _ → sProp 𝕄} :
    iprop(packP (srcM 0) c 1 (own0 A c 1) 0 0)
      ⊢ iprop((iprop(packP (srcM 0) c 1 (own0 A c 1) 2 2)
            -∗ Q ⟨k0_pay34 (kRows (A c) 1) (qRows (A c) 1), Scalar.ofBits .f32 0x00000000#32⟩)
          -∗ wp frame (wpE (defs₀ (F := F)) 𝒱₀ (c : Thread nD τ) none) Set.univ
            (call (k0_part6 (F := F)) (maskAt c) k0_pay4 (kRows (A c) 1) (vRows (A c) 1) (qRows (A c) 1) (k0_pay27 (k0_pay1 (A c).W) (kLoad (A c) 1) (xRows (A c) 1)) (Scalar.ofBits .f32 0x00000000#32)) Q) := by
  unfold call
  rw [k0_part6_eq_skeleton]; unfold k0_part6_skel
  simp only [semSignalWord, semWaitWord, Prog.lift, Prog.bind_op, Prog.bind_ret, Prog.pure_eq_ret]
  iintro Hp Hk
  iapply (pack_load (srcM 0) c 1 (own0 A c 1) 0 0 rfl rfl) $$ Hp
  iintro %y6 Hp
  iapply (pack_store_ctx (srcM 0) c 1 (own0 A c 1) 0 0 rfl (packV_ctx (A c) (maskAt c) 1 0)) $$ Hp
  iintro Hp
  iapply (pack_load (srcM 0) c 1 (own0 A c 1) 1 0 rfl rfl) $$ Hp
  iintro %y7 Hp
  iapply (pack_store_den (srcM 0) c 1 (own0 A c 1) 1 0 0 0 rfl (by decide) rfl rfl (packV_den (A c) (maskAt c) 1 0)) $$ Hp
  iintro Hp
  iapply (pack_load (srcM 0) c 1 (own0 A c 1) 1 1 rfl rfl) $$ Hp
  iintro %y8 Hp
  iapply (pack_store_ctx (srcM 0) c 1 (own0 A c 1) 1 1 rfl (packV_ctx (A c) (maskAt c) 1 1)) $$ Hp
  iintro Hp
  iapply (pack_load (srcM 0) c 1 (own0 A c 1) 2 1 rfl rfl) $$ Hp
  iintro %y9 Hp
  iapply (pack_store_den (srcM 0) c 1 (own0 A c 1) 2 1 0 1 rfl (by decide) rfl rfl (packV_den (A c) (maskAt c) 1 1)) $$ Hp
  iintro Hp
  rw [wp_ret]; imodintro
  iapply Hk
  iexact Hp

set_option maxHeartbeats 1000000 in
/-- The second batch's last two heads packed. -/
theorem part7_run {Q : _ → sProp 𝕄} :
    iprop(packP (srcM 0) c 1 (own0 A c 1) 2 2)
      ⊢ iprop((iprop(packP (srcM 0) c 1 (own0 A c 1) 4 4)
            -∗ Q (Scalar.muli (w4 c) 1#32))
          -∗ wp frame (wpE (defs₀ (F := F)) 𝒱₀ (c : Thread nD τ) none) Set.univ
            (call (k0_part7 (F := F)) (w4 c) (maskAt c) k0_pay4 (kRows (A c) 1) (vRows (A c) 1) (qRows (A c) 1) (k0_pay34 (kRows (A c) 1) (qRows (A c) 1)) (Scalar.ofBits .f32 0x00000000#32)) Q) := by
  unfold call
  rw [k0_part7_eq_skeleton]; unfold k0_part7_skel
  simp only [semSignalWord, semWaitWord, Prog.lift, Prog.bind_op, Prog.bind_ret, Prog.pure_eq_ret]
  iintro Hp Hk
  iapply (pack_load (srcM 0) c 1 (own0 A c 1) 2 2 rfl rfl) $$ Hp
  iintro %y10 Hp
  iapply (pack_store_ctx (srcM 0) c 1 (own0 A c 1) 2 2 rfl (packV_ctx (A c) (maskAt c) 1 2)) $$ Hp
  iintro Hp
  iapply (pack_load (srcM 0) c 1 (own0 A c 1) 3 2 rfl rfl) $$ Hp
  iintro %y11 Hp
  iapply (pack_store_den (srcM 0) c 1 (own0 A c 1) 3 2 1 0 rfl (by decide) rfl rfl (packV_den (A c) (maskAt c) 1 2)) $$ Hp
  iintro Hp
  iapply (pack_load (srcM 0) c 1 (own0 A c 1) 3 3 rfl rfl) $$ Hp
  iintro %y12 Hp
  iapply (pack_store_ctx (srcM 0) c 1 (own0 A c 1) 3 3 rfl (packV_ctx (A c) (maskAt c) 1 3)) $$ Hp
  iintro Hp
  iapply (pack_load (srcM 0) c 1 (own0 A c 1) 4 3 rfl rfl) $$ Hp
  iintro %y13 Hp
  iapply (pack_store_den (srcM 0) c 1 (own0 A c 1) 4 3 1 1 rfl (by decide) rfl rfl (packV_den (A c) (maskAt c) 1 3)) $$ Hp
  iintro Hp
  rw [wp_ret]; imodintro
  iapply Hk
  iexact Hp

set_option maxHeartbeats 1000000 in
/-- The second batch is sent; the first batch of the neighbour has landed and is added. -/
theorem part8_run {Q : _ → sProp 𝕄} :
    iprop(records A K
        ∗ levAts L lv
        ∗ packP (srcM 0) c 1 (own0 A c 1) 4 4
        ∗ owesE c (O₃ c)
        ∗ (∃ v, bPts (dstM 0) (peer 0 1 c) 1 fullShare v)
        ∗ dutyTok ER (xCell 0 0 1 c) 0 0
        ∗ dutyTok ER (xCell 0 1 1 (peer 0 1 c)) 0 0
        ∗ cred (tallyAt (xCell 0 1 0 c) () N)
        ∗ atPos ER (xCell 0 1 0 c) 0 ∅ 0
        ∗ bPts (srcM 0) c 0 fullShare.left (sent A 0 c 0)
        ∗ (∃ v, bPts (srcM 1) c 0 fullShare v))
      ⊢ iprop((iprop(owesE c (O₂ c)
              ∗ bPts (srcM 0) c 1 fullShare.left (sent A 0 c 1)
              ∗ cred (tallyAt (xCell 0 0 1 c) () N)
              ∗ semVal (xCell 0 1 0 c) 0
              ∗ bPts (dstM 0) c 0 fullShare (sent A 0 (peer 0 0 c) 0)
              ∗ bPts (srcM 0) c 0 fullShare.left (sent A 0 c 0)
              ∗ (∃ v, bPts (srcM 1) c 0 fullShare v))
            -∗ Q ⟨k0_pay41, tot1 A c 0, shapeCast S1x260x256 (tot1 A c 0) shapeCasts_S260x256_S1x260x256⟩)
          -∗ wp frame (wpE (defs₀ (F := F)) 𝒱₀ (c : Thread nD τ) none) Set.univ
            (call (k0_part8 (F := F)) c (w3 c) (Scalar.muli (w4 c) 1#32)) Q) := by
  unfold call
  rw [k0_part8_eq_skeleton]; unfold k0_part8_skel
  simp only [semSignalWord, semWaitWord, Prog.lift, Prog.bind_op, Prog.bind_ret, Prog.pure_eq_ret]
  iintro ⟨#HR, #HL, Hp, HO, Hl, Ht1, Ht2, Hc, Ha, H6, H8⟩ Hk
  ihave Hp := (packP_done (srcM 0) c 1 (own0 A c 1)) $$ Hp
  iapply (send_step A K 0 1 c _ (dev4_eq c) rfl rfl rfl rfl (O₂ c)) $$ [Hp Hl HO Ht1 Ht2]
  · isplitr; · iexact HR
    isplitl [Hp]; · iexact Hp
    isplitl [Hl]; · iexact Hl
    isplitl [HO]; · iexact HO
    isplitl [Ht1]; · iexact Ht1
    iexact Ht2
  iintro ⟨Hp, Hs, HO⟩
  iapply (recv_step A K 0 0 c rfl rfl (O₂ c) (above_O₂ c 2 (by decide))) $$ [Hc HO Ha]
  · isplitr; · iexact HR
    isplitr; · iexact HL
    isplitl [Hc]; · iexact Hc
    isplitl [HO]; · iexact HO
    iexact Ha
  iintro ⟨HO, Hz, Hd⟩
  iapply (load_whole_slice (Γ₀ := Variants.none) (srcM 0) c 0 fullShare.left (sent A 0 c 0) rfl) $$ H6
  iintro H6
  iapply (load_whole_slice (Γ₀ := Variants.none) (dstM 0) c 0 fullShare (sent A 0 (peer 0 0 c) 0) rfl) $$ Hd
  iintro Hd
  icases H8 with ⟨%v8, H8⟩
  iapply (load_whole_slice (Γ₀ := Variants.none) (srcM 1) c 0 fullShare (v8) rfl) $$ H8
  iintro H8
  rw [wp_ret, pay42_eq (sent A 0 c 0) (sent A 0 (peer 0 0 c) 0), pay43_eq (sent A 0 c 0) (sent A 0 (peer 0 0 c) 0),
    show addf (sent A 0 c 0) (sent A 0 (peer 0 0 c) 0) = tot1 A c 0 from rfl]; imodintro
  iapply Hk
  isplitl [HO]; · iexact HO
  isplitl [Hp]; · iexact Hp
  isplitl [Hs]; · iexact Hs
  isplitl [Hz]; · iexact Hz
  isplitl [Hd]; · iexact Hd
  isplitl [H6]; · iexact H6
  iexists v8; iexact H8

set_option maxHeartbeats 1000000 in
/-- The first batch's sum is sent on; the second batch of the device opposite has landed and is added. -/
theorem part9_run {Q : _ → sProp 𝕄} :
    iprop(records A K
        ∗ levAts L lv
        ∗ (∃ v, bPts (srcM 1) c 0 fullShare v)
        ∗ (∃ v, bPts (srcM 1) c 1 fullShare v)
        ∗ owesE c (O₂ c)
        ∗ (∃ v, bPts (dstM 1) (peer 1 0 c) 0 fullShare v)
        ∗ dutyTok ER (xCell 1 0 0 c) 0 0
        ∗ dutyTok ER (xCell 1 1 0 (peer 1 0 c)) 0 0
        ∗ cred (tallyAt (xCell 0 1 1 c) () N)
        ∗ atPos ER (xCell 0 1 1 c) 0 ∅ 0
        ∗ bPts (srcM 0) c 1 fullShare.left (sent A 0 c 1))
      ⊢ iprop((iprop(owesE c (O₁ c)
              ∗ bPts (srcM 1) c 0 fullShare.left (sent A 1 c 0)
              ∗ cred (tallyAt (xCell 1 0 0 c) () N)
              ∗ semVal (xCell 0 1 1 c) 0
              ∗ bPts (dstM 0) c 1 fullShare (sent A 0 (peer 0 1 c) 1)
              ∗ bPts (srcM 0) c 1 fullShare.left (sent A 0 c 1)
              ∗ bPts (srcM 1) c 1 fullShare (sent A 1 c 1))
            -∗ Q (tot1 A c 1))
          -∗ wp frame (wpE (defs₀ (F := F)) 𝒱₀ (c : Thread nD τ) none) Set.univ
            (call (k0_part9 (F := F)) c (w4 c) (shapeCast S1x260x256 (tot1 A c 0) shapeCasts_S260x256_S1x260x256)) Q) := by
  unfold call
  rw [k0_part9_eq_skeleton]; unfold k0_part9_skel
  simp only [semSignalWord, semWaitWord, Prog.lift, Prog.bind_op, Prog.bind_ret, Prog.pure_eq_ret]
  iintro ⟨#HR, #HL, H80, H81, HO, Hl, Ht1, Ht2, Hc, Ha, H6⟩ Hk
  icases H80 with ⟨%v80, H80⟩
  icases H81 with ⟨%v81, H81⟩
  iapply (store_whole_slice (srcM 1) c 0 v80 (sent A 1 c 0) rfl rfl) $$ H80
  iintro H80
  iapply (send_step A K 1 0 c _ (dev5_eq c) rfl rfl rfl rfl (O₁ c)) $$ [H80 Hl HO Ht1 Ht2]
  · isplitr; · iexact HR
    isplitl [H80]; · iexact H80
    isplitl [Hl]; · iexact Hl
    isplitl [HO]; · iexact HO
    isplitl [Ht1]; · iexact Ht1
    iexact Ht2
  iintro ⟨H80, Hs, HO⟩
  iapply (recv_step A K 0 1 c rfl rfl (O₁ c) (above_O₁ c 2 (by decide))) $$ [Hc HO Ha]
  · isplitr; · iexact HR
    isplitr; · iexact HL
    isplitl [Hc]; · iexact Hc
    isplitl [HO]; · iexact HO
    iexact Ha
  iintro ⟨HO, Hz, Hd⟩
  iapply (load_whole_slice (Γ₀ := Variants.none) (srcM 0) c 1 fullShare.left (sent A 0 c 1) rfl) $$ H6
  iintro H6
  iapply (load_whole_slice (Γ₀ := Variants.none) (dstM 0) c 1 fullShare (sent A 0 (peer 0 1 c) 1) rfl) $$ Hd
  iintro Hd
  iapply (load_whole_slice (Γ₀ := Variants.none) (srcM 1) c 1 fullShare (v81) rfl) $$ H81
  iintro H81
  iapply (store_whole_slice (srcM 1) c 1 v81 (sent A 1 c 1) rfl (pay45_eq (sent A 0 c 1) (sent A 0 (peer 0 1 c) 1))) $$ H81
  iintro H81
  rw [wp_ret, pay44_eq (sent A 0 c 1) (sent A 0 (peer 0 1 c) 1), show addf (sent A 0 c 1) (sent A 0 (peer 0 1 c) 1) = tot1 A c 1 from rfl]; imodintro
  iapply Hk
  isplitl [HO]; · iexact HO
  isplitl [H80]; · iexact H80
  isplitl [Hs]; · iexact Hs
  isplitl [Hz]; · iexact Hz
  isplitl [Hd]; · iexact Hd
  isplitl [H6]; · iexact H6
  iexact H81

set_option maxHeartbeats 1000000 in
/-- The second batch's sum is sent on; the first batch's second sum has landed, so its total is known. -/
theorem part10_run {Q : _ → sProp 𝕄} :
    iprop(records A K
        ∗ levAts L lv
        ∗ bPts (srcM 1) c 1 fullShare (sent A 1 c 1)
        ∗ owesE c (O₁ c)
        ∗ (∃ v, bPts (dstM 1) (peer 1 1 c) 1 fullShare v)
        ∗ dutyTok ER (xCell 1 0 1 c) 0 0
        ∗ dutyTok ER (xCell 1 1 1 (peer 1 1 c)) 0 0
        ∗ owns (c : Thread nD τ) woM fullShare (A c).O
        ∗ cred (tallyAt (xCell 1 1 0 c) () N)
        ∗ atPos ER (xCell 1 1 0 c) 0 ∅ 0)
      ⊢ iprop((iprop(owesE c (0)
              ∗ bPts (srcM 1) c 1 fullShare.left (sent A 1 c 1)
              ∗ cred (tallyAt (xCell 1 0 1 c) () N)
              ∗ owns (c : Thread nD τ) woM fullShare (A c).O
              ∗ semVal (xCell 1 1 0 c) 0
              ∗ bPts (dstM 1) c 0 fullShare (sent A 1 (peer 1 0 c) 0))
            -∗ Q ⟨k0_pay46 (A c).O, tot2 A c 0, rden (tot2 A c 0), k0_pay49 k0_pay41 (tot1 A c 0) (shapeCast S1x260x256 (sent A 1 (peer 1 0 c) 0) shapeCasts_S260x256_S1x260x256)⟩)
          -∗ wp frame (wpE (defs₀ (F := F)) 𝒱₀ (c : Thread nD τ) none) Set.univ
            (call (k0_part10 (F := F)) c (w3 c) (w4 c) k0_pay41 (tot1 A c 0)) Q) := by
  unfold call
  rw [k0_part10_eq_skeleton]; unfold k0_part10_skel
  simp only [semSignalWord, semWaitWord, Prog.lift, Prog.bind_op, Prog.bind_ret, Prog.pure_eq_ret]
  iintro ⟨#HR, #HL, H8, HO, Hl, Ht1, Ht2, Ho, Hc, Ha⟩ Hk
  iapply (send_step A K 1 1 c _ (dev6_eq c) rfl rfl rfl rfl (0)) $$ [H8 Hl HO Ht1 Ht2]
  · isplitr; · iexact HR
    isplitl [H8]; · iexact H8
    isplitl [Hl]; · iexact Hl
    isplitl [HO]; · iexact HO
    isplitl [Ht1]; · iexact Ht1
    iexact Ht2
  iintro ⟨H8, Hs, HO⟩
  iapply (load_as c woM (A c).O (Rect.unit (s := S256x512) ![0, 0] S256x512.size inb_S256x512_S256x512_0_0) (A c).O (whole_emb _ _)) $$ Ho
  iintro Ho
  iapply (recv_step A K 1 0 c rfl rfl (0) (above_zero _)) $$ [Hc HO Ha]
  · isplitr; · iexact HR
    isplitr; · iexact HL
    isplitl [Hc]; · iexact Hc
    isplitl [HO]; · iexact HO
    iexact Ha
  iintro ⟨HO, Hz, Hd⟩
  iapply (load_whole_slice (Γ₀ := Variants.none) (dstM 1) c 0 fullShare (sent A 1 (peer 1 0 c) 0) rfl) $$ Hd
  iintro Hd
  rw [wp_ret, pay47_eq (tot1 A c 0) (sent A 1 (peer 1 0 c) 0) _ (shapeCast_shapeCast _ _ _), pay48_eq (tot1 A c 0) (sent A 1 (peer 1 0 c) 0) _ (shapeCast_shapeCast _ _ _), show addf (tot1 A c 0) (sent A 1 (peer 1 0 c) 0) = tot2 A c 0 from rfl]; imodintro
  iapply Hk
  isplitl [HO]; · iexact HO
  isplitl [H8]; · iexact H8
  isplitl [Hs]; · iexact Hs
  isplitl [Ho]; · iexact Ho
  isplitl [Hz]; · iexact Hz
  iexact Hd

set_option maxHeartbeats 1000000 in
/-- The first batch's rows of the result. -/
theorem part11_run {Q : _ → sProp 𝕄} :
    iprop(ctxP c 0 (ctxRows (tot2 A c 0)) 0
        ∗ outP c (outAll A c) 0)
      ⊢ iprop((iprop(ctxP c 0 (ctxRows (tot2 A c 0)) 4
              ∗ outP c (outAll A c) 1)
            -∗ Q ⟨⟩)
          -∗ wp frame (wpE (defs₀ (F := F)) 𝒱₀ (c : Thread nD τ) none) Set.univ
            (call (k0_part11 (F := F)) (w3 c) (k0_pay46 (A c).O) (tot2 A c 0) (rden (tot2 A c 0)) (k0_pay49 k0_pay41 (tot1 A c 0) (shapeCast S1x260x256 (sent A 1 (peer 1 0 c) 0) shapeCasts_S260x256_S1x260x256))) Q) := by
  unfold call
  rw [k0_part11_eq_skeleton]; unfold k0_part11_skel
  simp only [semSignalWord, semWaitWord, Prog.lift, Prog.bind_op, Prog.bind_ret, Prog.pure_eq_ret]
  iintro ⟨Hc, Ho⟩ Hk
  iapply (ctx_load c 0 (ctxRows (tot2 A c 0)) 0 _) $$ Hc
  iintro %y14 Hc
  iapply (ctx_store c 0 (ctxRows (tot2 A c 0)) 0 rfl (fun r j h => (congrFun (pay50_eq (tot1 A c 0) (sent A 1 (peer 1 0 c) 0) _ (shapeCast_shapeCast _ _ _)) (ix2 r j)).trans (ctxRows_head (tot2 A c 0) 0 r j h))) $$ Hc
  iintro Hc
  iapply (ctx_load c 0 (ctxRows (tot2 A c 0)) 1 _) $$ Hc
  iintro %y15 Hc
  iapply (ctx_store c 0 (ctxRows (tot2 A c 0)) 1 rfl (fun r j h => (congrFun (pay51_eq (tot2 A c 0)) (ix2 r j)).trans (ctxRows_head (tot2 A c 0) 1 r j h))) $$ Hc
  iintro Hc
  iapply (ctx_load c 0 (ctxRows (tot2 A c 0)) 2 _) $$ Hc
  iintro %y16 Hc
  iapply (ctx_store c 0 (ctxRows (tot2 A c 0)) 2 rfl (fun r j h => (congrFun (pay52_eq (tot2 A c 0)) (ix2 r j)).trans (ctxRows_head (tot2 A c 0) 2 r j h))) $$ Hc
  iintro Hc
  iapply (ctx_load c 0 (ctxRows (tot2 A c 0)) 3 _) $$ Hc
  iintro %y17 Hc
  iapply (ctx_store c 0 (ctxRows (tot2 A c 0)) 3 rfl (fun r j h => (congrFun (pay53_eq (tot2 A c 0)) (ix2 r j)).trans (ctxRows_head (tot2 A c 0) 3 r j h))) $$ Hc
  iintro Hc
  iapply (ctx_load_all c 0 (ctxRows (tot2 A c 0)) rfl) $$ Hc
  iintro Hc
  iapply (out_load c (outAll A c) 0 _) $$ Ho
  iintro %y18 Ho
  iapply (out_store c (outAll A c) 0 rfl (outAll_rows A c 0)) $$ Ho
  iintro Ho
  rw [wp_ret]; imodintro
  iapply Hk
  isplitl [Hc]; · iexact Hc
  iexact Ho

set_option maxHeartbeats 1000000 in
/-- The second batch's second sum has landed; its contexts. -/
theorem part12_run {Q : _ → sProp 𝕄} :
    iprop(records A K
        ∗ levAts L lv
        ∗ owesE c (0)
        ∗ cred (tallyAt (xCell 1 1 1 c) () N)
        ∗ atPos ER (xCell 1 1 1 c) 0 ∅ 0
        ∗ ctxP c 1 (ctxRows (tot2 A c 1)) 0)
      ⊢ iprop((iprop(owesE c (0)
              ∗ semVal (xCell 1 1 1 c) 0
              ∗ bPts (dstM 1) c 1 fullShare (sent A 1 (peer 1 1 c) 1)
              ∗ ctxP c 1 (ctxRows (tot2 A c 1)) 4)
            -∗ Q ⟨⟩)
          -∗ wp frame (wpE (defs₀ (F := F)) 𝒱₀ (c : Thread nD τ) none) Set.univ
            (call (k0_part12 (F := F)) k0_pay41 (tot1 A c 1)) Q) := by
  unfold call
  rw [k0_part12_eq_skeleton]; unfold k0_part12_skel
  simp only [semSignalWord, semWaitWord, Prog.lift, Prog.bind_op, Prog.bind_ret, Prog.pure_eq_ret]
  iintro ⟨#HR, #HL, HO, Hcr, Ha, Hc⟩ Hk
  iapply (recv_step A K 1 1 c rfl rfl (0) (above_zero _)) $$ [Hcr HO Ha]
  · isplitr; · iexact HR
    isplitr; · iexact HL
    isplitl [Hcr]; · iexact Hcr
    isplitl [HO]; · iexact HO
    iexact Ha
  iintro ⟨HO, Hz, Hd⟩
  iapply (load_whole_slice (Γ₀ := Variants.none) (dstM 1) c 1 fullShare (sent A 1 (peer 1 1 c) 1) rfl) $$ Hd
  iintro Hd
  iapply (ctx_load c 1 (ctxRows (tot2 A c 1)) 0 _) $$ Hc
  iintro %y19 Hc
  iapply (ctx_store c 1 (ctxRows (tot2 A c 1)) 0 rfl (fun r j h => (congrFun (pay57_eq (tot1 A c 1) (sent A 1 (peer 1 1 c) 1) _ (shapeCast_shapeCast _ _ _)) (ix2 r j)).trans (ctxRows_head (tot2 A c 1) 0 r j h))) $$ Hc
  iintro Hc
  iapply (ctx_load c 1 (ctxRows (tot2 A c 1)) 1 _) $$ Hc
  iintro %y20 Hc
  iapply (ctx_store c 1 (ctxRows (tot2 A c 1)) 1 rfl (fun r j h => (congrFun (pay58_eq (tot1 A c 1) (sent A 1 (peer 1 1 c) 1) _ (shapeCast_shapeCast _ _ _)) (ix2 r j)).trans (ctxRows_head (tot2 A c 1) 1 r j h))) $$ Hc
  iintro Hc
  iapply (ctx_load c 1 (ctxRows (tot2 A c 1)) 2 _) $$ Hc
  iintro %y21 Hc
  iapply (ctx_store c 1 (ctxRows (tot2 A c 1)) 2 rfl (fun r j h => (congrFun (pay59_eq (tot1 A c 1) (sent A 1 (peer 1 1 c) 1) _ (shapeCast_shapeCast _ _ _)) (ix2 r j)).trans (ctxRows_head (tot2 A c 1) 2 r j h))) $$ Hc
  iintro Hc
  iapply (ctx_load c 1 (ctxRows (tot2 A c 1)) 3 _) $$ Hc
  iintro %y22 Hc
  iapply (ctx_store c 1 (ctxRows (tot2 A c 1)) 3 rfl (fun r j h => (congrFun (pay60_eq (tot1 A c 1) (sent A 1 (peer 1 1 c) 1) _ (shapeCast_shapeCast _ _ _)) (ix2 r j)).trans (ctxRows_head (tot2 A c 1) 3 r j h))) $$ Hc
  iintro Hc
  rw [wp_ret]; imodintro
  iapply Hk
  isplitl [HO]; · iexact HO
  isplitl [Hz]; · iexact Hz
  isplitl [Hd]; · iexact Hd
  iexact Hc

set_option maxHeartbeats 1000000 in
/-- The second batch's rows of the result; three of the four transfers have left. -/
theorem part13_run {Q : _ → sProp 𝕄} :
    iprop(records A K
        ∗ ctxP c 1 (ctxRows (tot2 A c 1)) 4
        ∗ outP c (outAll A c) 1
        ∗ owesE c (0)
        ∗ cred (tallyAt (xCell 0 0 0 c) () N)
        ∗ atPos ER (xCell 0 0 0 c) 0 ∅ 0
        ∗ bPts (srcM 0) c 0 fullShare.left (sent A 0 c 0)
        ∗ cred (tallyAt (xCell 0 0 1 c) () N)
        ∗ atPos ER (xCell 0 0 1 c) 0 ∅ 0
        ∗ bPts (srcM 0) c 1 fullShare.left (sent A 0 c 1)
        ∗ cred (tallyAt (xCell 1 0 0 c) () N)
        ∗ atPos ER (xCell 1 0 0 c) 0 ∅ 0
        ∗ bPts (srcM 1) c 0 fullShare.left (sent A 1 c 0))
      ⊢ iprop((iprop(ctxP c 1 (ctxRows (tot2 A c 1)) 4
              ∗ outP c (outAll A c) 2
              ∗ owesE c (0)
              ∗ semVal (xCell 0 0 0 c) 0
              ∗ bPts (srcM 0) c 0 fullShare (sent A 0 c 0)
              ∗ semVal (xCell 0 0 1 c) 0
              ∗ bPts (srcM 0) c 1 fullShare (sent A 0 c 1)
              ∗ semVal (xCell 1 0 0 c) 0
              ∗ bPts (srcM 1) c 0 fullShare (sent A 1 c 0))
            -∗ Q ⟨⟩)
          -∗ wp frame (wpE (defs₀ (F := F)) 𝒱₀ (c : Thread nD τ) none) Set.univ
            (call (k0_part13 (F := F)) (k0_pay46 (A c).O)) Q) := by
  unfold call
  rw [k0_part13_eq_skeleton]; unfold k0_part13_skel
  simp only [semSignalWord, semWaitWord, Prog.lift, Prog.bind_op, Prog.bind_ret, Prog.pure_eq_ret]
  iintro ⟨#HR, Hc, Ho, HO, C1, A1, L1, C2, A2, L2, C3, A3, L3⟩ Hk
  iapply (ctx_load_all c 1 (ctxRows (tot2 A c 1)) rfl) $$ Hc
  iintro Hc
  iapply (out_load c (outAll A c) 1 _) $$ Ho
  iintro %y23 Ho
  iapply (out_store c (outAll A c) 1 rfl (outAll_rows A c 1)) $$ Ho
  iintro Ho
  iapply (sent_step A K 0 0 c rfl rfl) $$ [C1 HO A1 L1]
  · isplitr; · iexact HR
    isplitl [C1]; · iexact C1
    isplitl [HO]; · iexact HO
    isplitl [A1]; · iexact A1
    iexact L1
  iintro ⟨HO, Z1, L1⟩
  iapply (sent_step A K 0 1 c rfl rfl) $$ [C2 HO A2 L2]
  · isplitr; · iexact HR
    isplitl [C2]; · iexact C2
    isplitl [HO]; · iexact HO
    isplitl [A2]; · iexact A2
    iexact L2
  iintro ⟨HO, Z2, L2⟩
  iapply (sent_step A K 1 0 c rfl rfl) $$ [C3 HO A3 L3]
  · isplitr; · iexact HR
    isplitl [C3]; · iexact C3
    isplitl [HO]; · iexact HO
    isplitl [A3]; · iexact A3
    iexact L3
  iintro ⟨HO, Z3, L3⟩
  rw [wp_ret]; imodintro
  iapply Hk
  isplitl [Hc]; · iexact Hc
  isplitl [Ho]; · iexact Ho
  isplitl [HO]; · iexact HO
  isplitl [Z1]; · iexact Z1
  isplitl [L1]; · iexact L1
  isplitl [Z2]; · iexact Z2
  isplitl [L2]; · iexact L2
  isplitl [Z3]; · iexact Z3
  iexact L3

end Cert.Butterfly

end
-- ==== Proof.Body.lean ====
/-
# The body

The parts in sequence, from what the launch gives a device to what it takes back.
-/
module

public import proofs.«01_k».proof.Proof.Parts

@[expose] public section

noncomputable section

namespace Cert.Butterfly

open Cert.KernelIdeal Cert.KernelIdeal.Gen

open Idealize.ShloMosaic hiding ix1 ix2 ix3 ix4 eq_ix1 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Blk F) (K : CIdx → ℕ) (c : Dev nD)

/-- The positions of device `c`'s nine cells. -/
def positions : sProp 𝕄 :=
  iprop(atPos ER (barCell c) 0 ∅ 0
    ∗ atPos ER (xCell 0 0 0 c) 0 ∅ 0
    ∗ atPos ER (xCell 0 0 1 c) 0 ∅ 0
    ∗ atPos ER (xCell 0 1 0 c) 0 ∅ 0
    ∗ atPos ER (xCell 0 1 1 c) 0 ∅ 0
    ∗ atPos ER (xCell 1 0 0 c) 0 ∅ 0
    ∗ atPos ER (xCell 1 0 1 c) 0 ∅ 0
    ∗ atPos ER (xCell 1 1 0 c) 0 ∅ 0
    ∗ atPos ER (xCell 1 1 1 c) 0 ∅ 0)

/-- The tokens of the duties device `c` pays: a signal to each partner, four transfers, each paid at both ends. -/
def payToks : sProp 𝕄 :=
  iprop(dutyTok ER (barCell (par 0 c)) 0 0 ∗ dutyTok ER (barCell (par 1 c)) 0 1
    ∗ dutyTok ER (xCell 0 0 0 c) 0 0
    ∗ dutyTok ER (xCell 0 0 1 c) 0 0
    ∗ dutyTok ER (xCell 1 0 0 c) 0 0
    ∗ dutyTok ER (xCell 1 0 1 c) 0 0
    ∗ dutyTok ER (xCell 0 1 0 (peer 0 0 c)) 0 0
    ∗ dutyTok ER (xCell 0 1 1 (peer 0 1 c)) 0 0
    ∗ dutyTok ER (xCell 1 1 0 (peer 1 0 c)) 0 0
    ∗ dutyTok ER (xCell 1 1 1 (peer 1 1 c)) 0 0)

/-- The credit device `c` waits with: both partners' signals, four landings. -/
def credits : sProp 𝕄 :=
  iprop(cred (tallyAt (barCell c) () 2)
    ∗ cred (tallyAt (xCell 0 1 0 c) () N)
    ∗ cred (tallyAt (xCell 0 1 1 c) () N)
    ∗ cred (tallyAt (xCell 1 1 0 c) () N)
    ∗ cred (tallyAt (xCell 1 1 1 c) () N))

/-- Every cell of device `c` back at zero. -/
def zeros : sProp 𝕄 :=
  iprop(semVal (barCell c) 0
    ∗ semVal (xCell 0 0 0 c) 0
    ∗ semVal (xCell 0 0 1 c) 0
    ∗ semVal (xCell 0 1 0 c) 0
    ∗ semVal (xCell 0 1 1 c) 0
    ∗ semVal (xCell 1 0 0 c) 0
    ∗ semVal (xCell 1 0 1 c) 0
    ∗ semVal (xCell 1 1 0 c) 0
    ∗ semVal (xCell 1 1 1 c) 0)

/-- The staged operands, at the device's blocks. -/
def operands : sProp 𝕄 :=
  iprop(owns (c : Thread nD τ) xM fullShare (A c).X
    ∗ owns (c : Thread nD τ) wM fullShare (A c).W
    ∗ owns (c : Thread nD τ) kM fullShare (A c).K
    ∗ owns (c : Thread nD τ) vM fullShare (A c).V
    ∗ owns (c : Thread nD τ) woM fullShare (A c).O)

/-- The scratch buffers, whatever they hold. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

omit [FloatOps F] in
/-- Scratch buffer 0 is its two slices, and back. -/
theorem split0 (f : Buf (Elt F) ((c : Thread nD τ).loc cc0_scratch0)) :
    ((((c : Thread nD τ).loc cc0_scratch0) ↦{fullShare} f : sProp 𝕄)) ⊢ iprop((∃ v, bPts (srcM 0) c 0 fullShare v) ∗ ∃ v, bPts (srcM 0) c 1 fullShare v) :=
  (Entails.of_eq (by
    exact congrArg (fun S : Finset _ => (((c : Thread nD τ).loc cc0_scratch0) ↦[S]{fullShare} f : sProp 𝕄)) (View.set_whole cc0_scratch0).symm)).trans (split_slices (srcM 0) c f)
omit [FloatOps F] in
theorem join0 (v v' : Vec F S260x256 .bf16) :
    (iprop(bPts (srcM 0) c 0 fullShare v ∗ bPts (srcM 0) c 1 fullShare v') : sProp 𝕄) ⊢ iprop(∃ f : Buf (Elt F) ((c : Thread nD τ).loc cc0_scratch0), ((c : Thread nD τ).loc cc0_scratch0) ↦{fullShare} f) :=
  (join_slices (srcM 0) c v v').trans (Entails.of_eq (by
    exact congrArg (fun S : Finset _ => iprop(∃ f : Buf (Elt F) ((c : Thread nD τ).loc cc0_scratch0), ((c : Thread nD τ).loc cc0_scratch0) ↦[S]{fullShare} f : sProp 𝕄)) (View.set_whole cc0_scratch0)))

omit [FloatOps F] in
/-- Scratch buffer 1 is its two slices, and back. -/
theorem split1 (f : Buf (Elt F) ((c : Thread nD τ).loc cc0_scratch1)) :
    ((((c : Thread nD τ).loc cc0_scratch1) ↦{fullShare} f : sProp 𝕄)) ⊢ iprop((∃ v, bPts (dstM 0) c 0 fullShare v) ∗ ∃ v, bPts (dstM 0) c 1 fullShare v) :=
  (Entails.of_eq (by
    exact congrArg (fun S : Finset _ => (((c : Thread nD τ).loc cc0_scratch1) ↦[S]{fullShare} f : sProp 𝕄)) (View.set_whole cc0_scratch1).symm)).trans (split_slices (dstM 0) c f)
omit [FloatOps F] in
theorem join1 (v v' : Vec F S260x256 .bf16) :
    (iprop(bPts (dstM 0) c 0 fullShare v ∗ bPts (dstM 0) c 1 fullShare v') : sProp 𝕄) ⊢ iprop(∃ f : Buf (Elt F) ((c : Thread nD τ).loc cc0_scratch1), ((c : Thread nD τ).loc cc0_scratch1) ↦{fullShare} f) :=
  (join_slices (dstM 0) c v v').trans (Entails.of_eq (by
    exact congrArg (fun S : Finset _ => iprop(∃ f : Buf (Elt F) ((c : Thread nD τ).loc cc0_scratch1), ((c : Thread nD τ).loc cc0_scratch1) ↦[S]{fullShare} f : sProp 𝕄)) (View.set_whole cc0_scratch1)))

omit [FloatOps F] in
/-- Scratch buffer 2 is its two slices, and back. -/
theorem split2 (f : Buf (Elt F) ((c : Thread nD τ).loc cc0_scratch2)) :
    ((((c : Thread nD τ).loc cc0_scratch2) ↦{fullShare} f : sProp 𝕄)) ⊢ iprop((∃ v, bPts (srcM 1) c 0 fullShare v) ∗ ∃ v, bPts (srcM 1) c 1 fullShare v) :=
  (Entails.of_eq (by
    exact congrArg (fun S : Finset _ => (((c : Thread nD τ).loc cc0_scratch2) ↦[S]{fullShare} f : sProp 𝕄)) (View.set_whole cc0_scratch2).symm)).trans (split_slices (srcM 1) c f)
omit [FloatOps F] in
theorem join2 (v v' : Vec F S260x256 .bf16) :
    (iprop(bPts (srcM 1) c 0 fullShare v ∗ bPts (srcM 1) c 1 fullShare v') : sProp 𝕄) ⊢ iprop(∃ f : Buf (Elt F) ((c : Thread nD τ).loc cc0_scratch2), ((c : Thread nD τ).loc cc0_scratch2) ↦{fullShare} f) :=
  (join_slices (srcM 1) c v v').trans (Entails.of_eq (by
    exact congrArg (fun S : Finset _ => iprop(∃ f : Buf (Elt F) ((c : Thread nD τ).loc cc0_scratch2), ((c : Thread nD τ).loc cc0_scratch2) ↦[S]{fullShare} f : sProp 𝕄)) (View.set_whole cc0_scratch2)))

omit [FloatOps F] in
/-- Scratch buffer 3 is its two slices, and back. -/
theorem split3 (f : Buf (Elt F) ((c : Thread nD τ).loc cc0_scratch3)) :
    ((((c : Thread nD τ).loc cc0_scratch3) ↦{fullShare} f : sProp 𝕄)) ⊢ iprop((∃ v, bPts (dstM 1) c 0 fullShare v) ∗ ∃ v, bPts (dstM 1) c 1 fullShare v) :=
  (Entails.of_eq (by
    exact congrArg (fun S : Finset _ => (((c : Thread nD τ).loc cc0_scratch3) ↦[S]{fullShare} f : sProp 𝕄)) (View.set_whole cc0_scratch3).symm)).trans (split_slices (dstM 1) c f)
omit [FloatOps F] in
theorem join3 (v v' : Vec F S260x256 .bf16) :
    (iprop(bPts (dstM 1) c 0 fullShare v ∗ bPts (dstM 1) c 1 fullShare v') : sProp 𝕄) ⊢ iprop(∃ f : Buf (Elt F) ((c : Thread nD τ).loc cc0_scratch3), ((c : Thread nD τ).loc cc0_scratch3) ↦{fullShare} f) :=
  (join_slices (dstM 1) c v v').trans (Entails.of_eq (by
    exact congrArg (fun S : Finset _ => iprop(∃ f : Buf (Elt F) ((c : Thread nD τ).loc cc0_scratch3), ((c : Thread nD τ).loc cc0_scratch3) ↦[S]{fullShare} f : sProp 𝕄)) (View.set_whole cc0_scratch3)))

set_option maxHeartbeats 4000000 in
/-- The body, from a device's start to its end: the result is staged, every cell is back at zero. -/
theorem body_run {Q : PUnit → sProp 𝕄} :
    iprop(records A K ∗ levAts L lv ∗ positions c ∗ payToks c ∗ credits c ∗ owesE c (O₀ c) ∗ operands A c ∗ scratch c
        ∗ ∃ f : Buf (Elt F) ((c : Thread nD τ).loc cc0_stg5_0), ((c : Thread nD τ).loc cc0_stg5_0) ↦{fullShare} f)
      ⊢ iprop((iprop(owesE c 0 ∗ zeros c ∗ operands A c ∗ scratch c ∗ (((c : Thread nD τ).loc cc0_stg5_0) ↦{fullShare} (outAll A c)))
            -∗ Q ⟨⟩)
          -∗ wp frame (wpE (defs₀ (F := F)) 𝒱₀ (c : Thread nD τ) none) Set.univ
            (call (cc0__body (F := F))) Q) := by
  unfold call
  rw [cc0__body_eq_skeleton]; unfold cc0__body_skel
  unfold positions payToks credits operands scratch
  iintro ⟨#HR, #HL, ⟨PB, P000, P001, P010, P011, P100, P101, P110, P111⟩, ⟨T0, T1, TS00, TS01, TS10, TS11, TR00, TR01, TR10, TR11⟩, ⟨CB, C00, C01, C10, C11⟩, HO, ⟨Hx, Hw, Hkk, Hv, Ho⟩, ⟨⟨%f0, B0⟩, ⟨%f1, B1⟩, ⟨%f2, B2⟩, ⟨%f3, B3⟩, B4⟩, Hout⟩ Hk
  ihave B0 := (split0 c f0) $$ B0
  icases B0 with ⟨s00, s01⟩
  ihave B1 := (split1 c f1) $$ B1
  icases B1 with ⟨d00, d01⟩
  ihave B2 := (split2 c f2) $$ B2
  icases B2 with ⟨s10, s11⟩
  ihave B3 := (split3 c f3) $$ B3
  icases B3 with ⟨d10, d11⟩
  rw [wp_bind]
  iapply (part1_run A K c) $$ [HO T0 T1 d00 d01 d10 d11 Hw]
  · isplitr; · iexact HR
    isplitl [HO]; · iexact HO
    isplitl [T0]; · iexact T0
    isplitl [T1]; · iexact T1
    isplitl [d00]; · iexact d00
    isplitl [d01]; · iexact d01
    isplitl [d10]; · iexact d10
    isplitl [d11]; · iexact d11
    iexact Hw
  iintro ⟨HO, Hw⟩
  try dsimp only
  rw [wp_bind]
  iapply (part2_run A c) $$ [Hkk Hv]
  · isplitl [Hkk]; · iexact Hkk
    iexact Hv
  iintro ⟨Hkk, Hv⟩
  try dsimp only
  icases s00 with ⟨%v00, s00⟩
  ihave s00 := (packP_start (srcM 0) c 0 (own0 A c 0) v00) $$ s00
  rw [wp_bind]
  iapply (part3_run A c) $$ [Hx s00]
  · isplitl [Hx]; · iexact Hx
    iexact s00
  iintro ⟨Hx, s00⟩
  try dsimp only
  rw [wp_bind]
  iapply (part4_run A c) $$ s00
  iintro s00
  try dsimp only
  rw [wp_bind]
  iapply (part5_run A K c) $$ [s00 CB HO PB TS00 TR00 Hkk Hv Hx]
  · isplitr; · iexact HR
    isplitr; · iexact HL
    isplitl [s00]; · iexact s00
    isplitl [CB]; · iexact CB
    isplitl [HO]; · iexact HO
    isplitl [PB]; · iexact PB
    isplitl [TS00]; · iexact TS00
    isplitl [TR00]; · iexact TR00
    isplitl [Hkk]; · iexact Hkk
    isplitl [Hv]; · iexact Hv
    iexact Hx
  iintro ⟨HO, ZB, s00, CS00, l01, l10, l11, Hkk, Hv, Hx⟩
  try dsimp only
  icases s01 with ⟨%v01, s01⟩
  ihave s01 := (packP_start (srcM 0) c 1 (own0 A c 1) v01) $$ s01
  rw [wp_bind]
  iapply (part6_run A c) $$ s01
  iintro s01
  try dsimp only
  rw [wp_bind]
  iapply (part7_run A c) $$ s01
  iintro s01
  try dsimp only
  rw [wp_bind]
  iapply (part8_run A K c) $$ [s01 HO l01 TS01 TR01 C00 P010 s00 s10]
  · isplitr; · iexact HR
    isplitr; · iexact HL
    isplitl [s01]; · iexact s01
    isplitl [HO]; · iexact HO
    isplitl [l01]; · iexact l01
    isplitl [TS01]; · iexact TS01
    isplitl [TR01]; · iexact TR01
    isplitl [C00]; · iexact C00
    isplitl [P010]; · iexact P010
    isplitl [s00]; · iexact s00
    iexact s10
  iintro ⟨HO, s01, CS01, Z010, r00, s00, s10⟩
  try dsimp only
  rw [wp_bind]
  iapply (part9_run A K c) $$ [s10 s11 HO l10 TS10 TR10 C01 P011 s01]
  · isplitr; · iexact HR
    isplitr; · iexact HL
    isplitl [s10]; · iexact s10
    isplitl [s11]; · iexact s11
    isplitl [HO]; · iexact HO
    isplitl [l10]; · iexact l10
    isplitl [TS10]; · iexact TS10
    isplitl [TR10]; · iexact TR10
    isplitl [C01]; · iexact C01
    isplitl [P011]; · iexact P011
    iexact s01
  iintro ⟨HO, s10, CS10, Z011, r01, s01, s11⟩
  try dsimp only
  rw [wp_bind]
  iapply (part10_run A K c) $$ [s11 HO l11 TS11 TR11 Ho C10 P110]
  · isplitr; · iexact HR
    isplitr; · iexact HL
    isplitl [s11]; · iexact s11
    isplitl [HO]; · iexact HO
    isplitl [l11]; · iexact l11
    isplitl [TS11]; · iexact TS11
    isplitl [TR11]; · iexact TR11
    isplitl [Ho]; · iexact Ho
    isplitl [C10]; · iexact C10
    iexact P110
  iintro ⟨HO, s11, CS11, Ho, Z110, r10⟩
  try dsimp only
  ihave B4 := (ctxP_start c 0 (ctxRows (tot2 A c 0))) $$ B4
  icases Hout with ⟨%fo, Hout⟩
  ihave Hout := (outP_start c (outAll A c) fo) $$ Hout
  rw [wp_bind]
  iapply (part11_run A c) $$ [B4 Hout]
  · isplitl [B4]; · iexact B4
    iexact Hout
  iintro ⟨B4, Hout⟩
  try dsimp only
  ihave B4 := (ctxP_forget c 0 (ctxRows (tot2 A c 0)) 4) $$ B4
  ihave B4 := (ctxP_start c 1 (ctxRows (tot2 A c 1))) $$ B4
  rw [wp_bind]
  iapply (part12_run A K c) $$ [HO C11 P111 B4]
  · isplitr; · iexact HR
    isplitr; · iexact HL
    isplitl [HO]; · iexact HO
    isplitl [C11]; · iexact C11
    isplitl [P111]; · iexact P111
    iexact B4
  iintro ⟨HO, Z111, r11, B4⟩
  try dsimp only
  rw [wp_bind]
  iapply (part13_run A K c) $$ [B4 Hout HO CS00 P000 s00 CS01 P001 s01 CS10 P100 s10]
  · isplitr; · iexact HR
    isplitl [B4]; · iexact B4
    isplitl [Hout]; · iexact Hout
    isplitl [HO]; · iexact HO
    isplitl [CS00]; · iexact CS00
    isplitl [P000]; · iexact P000
    isplitl [s00]; · iexact s00
    isplitl [CS01]; · iexact CS01
    isplitl [P001]; · iexact P001
    isplitl [s01]; · iexact s01
    isplitl [CS10]; · iexact CS10
    isplitl [P100]; · iexact P100
    iexact s10
  iintro ⟨B4, Hout, HO, Z000, s00, Z001, s01, Z100, s10⟩
  try dsimp only
  ihave B4 := (ctxP_forget c 1 (ctxRows (tot2 A c 1)) 4) $$ B4
  ihave Hout := (outP_done c (outAll A c)) $$ Hout
  simp only [Prog.lift, Prog.bind_op, Prog.bind_ret, Prog.pure_eq_ret]
  iapply (sent_step A K 1 1 c rfl rfl) $$ [CS11 HO P101 s11]
  · isplitr; · iexact HR
    isplitl [CS11]; · iexact CS11
    isplitl [HO]; · iexact HO
    isplitl [P101]; · iexact P101
    iexact s11
  iintro ⟨HO, Z101, s11⟩
  rw [wp_ret]; imodintro
  iapply Hk
  unfold zeros
  ihave B0 := (join0 c _ _) $$ [s00 s01]
  · isplitl [s00] <;> iassumption
  ihave B1 := (join1 c _ _) $$ [r00 r01]
  · isplitl [r00] <;> iassumption
  ihave B2 := (join2 c _ _) $$ [s10 s11]
  · isplitl [s10] <;> iassumption
  ihave B3 := (join3 c _ _) $$ [r10 r11]
  · isplitl [r10] <;> iassumption
  isplitl [HO]; · iexact HO
  isplitl [ZB Z000 Z001 Z010 Z011 Z100 Z101 Z110 Z111]
  · isplitl [ZB]; · iexact ZB
    isplitl [Z000]; · iexact Z000
    isplitl [Z001]; · iexact Z001
    isplitl [Z010]; · iexact Z010
    isplitl [Z011]; · iexact Z011
    isplitl [Z100]; · iexact Z100
    isplitl [Z101]; · iexact Z101
    isplitl [Z110]; · iexact Z110
    iexact Z111
  isplitl [Hx Hw Hkk Hv Ho]
  · isplitl [Hx]; · iexact Hx
    isplitl [Hw]; · iexact Hw
    isplitl [Hkk]; · iexact Hkk
    isplitl [Hv]; · iexact Hv
    iexact Ho
  isplitl [B0 B1 B2 B3 B4]
  · isplitl [B0]; · iexact B0
    isplitl [B1]; · iexact B1
    isplitl [B2]; · iexact B2
    isplitl [B3]; · iexact B3
    iexact B4
  iexact Hout

end Cert.Butterfly

end
-- ==== Proof.Launch.lean ====
/-
# The launch

The kernel's run over any floats: what every device starts from, what its result array ends at.
-/
module

public import proofs.«01_k».proof.Proof.Body
public import proofs.«01_k».proof.Proof.Gen.KernelIdeal.Launch
public import Idealize.ShloMosaic.Lib.Pipeline.Launch
public import Idealize.ShloMosaic.Lib.Quiescent
public import Idealize.ShloMosaic.Lib.Pipeline.CollectiveSegs

@[expose] public section

noncomputable section

namespace Cert.Butterfly

open Cert.KernelIdeal Cert.KernelIdeal.Gen

open Idealize.ShloMosaic hiding ix1 ix2 ix3 ix4 eq_ix1 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## What is staged -/

def xBlk (c : Dev nD) : (cc0_stg0_0 : Ref sig .tc).ty.Contents (Elt F) :=
  (win0_0.blk (0 : Fin 1)).view.read (Elt F) ((s₀ m ρ).mem ((c : Thread nD τ).loc main_arg0))
def wBlk (c : Dev nD) : (cc0_stg1_0 : Ref sig .tc).ty.Contents (Elt F) :=
  (win0_1.blk (0 : Fin 1)).view.read (Elt F) ((s₀ m ρ).mem ((c : Thread nD τ).loc main_arg1))
def kBlk (c : Dev nD) : (cc0_stg2_0 : Ref sig .tc).ty.Contents (Elt F) :=
  (win0_2.blk (0 : Fin 1)).view.read (Elt F) ((s₀ m ρ).mem ((c : Thread nD τ).loc main_arg2))
def vBlk (c : Dev nD) : (cc0_stg3_0 : Ref sig .tc).ty.Contents (Elt F) :=
  (win0_3.blk (0 : Fin 1)).view.read (Elt F) ((s₀ m ρ).mem ((c : Thread nD τ).loc main_arg3))
def oBlk (c : Dev nD) : (cc0_stg4_0 : Ref sig .tc).ty.Contents (Elt F) :=
  (win0_4.blk (0 : Fin 1)).view.read (Elt F) ((s₀ m ρ).mem ((c : Thread nD τ).loc main_arg4))
/-- Device `c`'s operands. -/
def blk (c : Dev nD) : Blk F := ⟨xBlk m ρ c, wBlk m ρ c, kBlk m ρ c, vBlk m ρ c, oBlk m ρ c⟩
/-- Device `c`'s result. -/
def outAt (c : Dev nD) : (cc0_stg5_0 : Ref sig .tc).ty.Contents (Elt F) := outAll (blk m ρ) c

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's obligation -/

/-- What device `c` starts from: its positions, the tokens it pays with, its credit, and what all devices know. -/
def ghost (c : Dev nD) : sProp 𝕄 := iprop(∃ K, records (blk m ρ) K ∗ positions c ∗ payToks c)
def start (c : Dev nD) : sProp 𝕄 := iprop(ghost m ρ c ∗ credits c ∗ levAts L lv)
def Φ₀ (c : Dev nD) : sProp 𝕄 := iprop(start m ρ c ∗ scratch c)
def Φ₁ (c : Dev nD) : sProp 𝕄 := iprop(zeros (F := F) c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xBlk m ρ c
    | ⟨1, _⟩ => wBlk m ρ c
    | ⟨2, _⟩ => kBlk m ρ c
    | ⟨3, _⟩ => vBlk m ρ c
    | ⟨4, _⟩ => oBlk m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem before_0 (c : Dev nD) (d) : (dats m ρ 0 c).before (0 : Fin 6) t₀ d = xBlk m ρ c := by
  unfold Dat.before; rw [if_pos (by decide)]; rfl
theorem before_1 (c : Dev nD) (d) : (dats m ρ 0 c).before (1 : Fin 6) t₀ d = wBlk m ρ c := by
  unfold Dat.before; rw [if_pos (by decide)]; rfl
theorem before_2 (c : Dev nD) (d) : (dats m ρ 0 c).before (2 : Fin 6) t₀ d = kBlk m ρ c := by
  unfold Dat.before; rw [if_pos (by decide)]; rfl
theorem before_3 (c : Dev nD) (d) : (dats m ρ 0 c).before (3 : Fin 6) t₀ d = vBlk m ρ c := by
  unfold Dat.before; rw [if_pos (by decide)]; rfl
theorem before_4 (c : Dev nD) (d) : (dats m ρ 0 c).before (4 : Fin 6) t₀ d = oBlk m ρ c := by
  unfold Dat.before; rw [if_pos (by decide)]; rfl

def bodyPre (c : Dev nD) : sProp 𝕄 :=
  iprop(Φ₀ m ρ c ∗ (dats m ρ 0 c).owesAt () t₀.castSucc
    ∗ (∃ d, owns (c : Thread nD τ) (Memref.whole cc0_stg0_0) fullShare ((dats m ρ 0 c).before (0 : Fin 6) t₀ d))
    ∗ (∃ d, owns (c : Thread nD τ) (Memref.whole cc0_stg1_0) fullShare ((dats m ρ 0 c).before (1 : Fin 6) t₀ d))
    ∗ (∃ d, owns (c : Thread nD τ) (Memref.whole cc0_stg2_0) fullShare ((dats m ρ 0 c).before (2 : Fin 6) t₀ d))
    ∗ (∃ d, owns (c : Thread nD τ) (Memref.whole cc0_stg3_0) fullShare ((dats m ρ 0 c).before (3 : Fin 6) t₀ d))
    ∗ (∃ d, owns (c : Thread nD τ) (Memref.whole cc0_stg4_0) fullShare ((dats m ρ 0 c).before (4 : Fin 6) t₀ d))
    ∗ (∃ d, owns (c : Thread nD τ) (Memref.whole cc0_stg5_0) fullShare ((dats m ρ 0 c).before (5 : Fin 6) t₀ d)))
def bodyPost (c : Dev nD) : sProp 𝕄 :=
  iprop(Φ₁ c ∗ (dats m ρ 0 c).owesAt () t₀.succ
    ∗ owns (c : Thread nD τ) (Memref.whole cc0_stg0_0) fullShare (xBlk m ρ c)
    ∗ owns (c : Thread nD τ) (Memref.whole cc0_stg1_0) fullShare (wBlk m ρ c)
    ∗ owns (c : Thread nD τ) (Memref.whole cc0_stg2_0) fullShare (kBlk m ρ c)
    ∗ owns (c : Thread nD τ) (Memref.whole cc0_stg3_0) fullShare (vBlk m ρ c)
    ∗ owns (c : Thread nD τ) (Memref.whole cc0_stg4_0) fullShare (oBlk m ρ c)
    ∗ owns (c : Thread nD τ) (Memref.whole cc0_stg5_0) fullShare (outAt m ρ c))

theorem body_sound (c : Dev nD) :
    bodyPre m ρ c ⊢ wp frame (wpE (defs₀ (F := F)) 𝒱₀ (c : Thread nD τ) none) Set.univ (call (cc0__body (F := F))) (fun _ => bodyPost m ρ c) := by
  unfold bodyPre Φ₀ start ghost Dat.owesAt Pipeline.owesWithin
  simp only [before_0, before_1, before_2, before_3, before_4]
  iintro ⟨⟨⟨⟨%K, HR, Hp, Ht⟩, Hc, HL⟩, Hs⟩, ⟨%W, %hW, HO⟩, ⟨%d0, H0⟩, ⟨%d1, H1⟩, ⟨%d2, H2⟩, ⟨%d3, H3⟩, ⟨%d4, H4⟩, ⟨%d5, H5⟩⟩
  ihave H5 := (Entails.of_eq (owns_buf c cc0_stg5_0 _)) $$ H5
  icases H5 with ⟨%f5, %hf5, H5⟩
  iapply (body_run (blk m ρ) K c) $$ [HR HL Hp Ht Hc HO H0 H1 H2 H3 H4 Hs H5]
  · isplitl [HR]; · iexact HR
    isplitl [HL]; · iexact HL
    isplitl [Hp]; · iexact Hp
    isplitl [Ht]; · iexact Ht
    isplitl [Hc]; · iexact Hc
    isplitl [HO]; · unfold owesE; iexists W; iexact HO
    isplitl [H0 H1 H2 H3 H4]
    · unfold operands
      isplitl [H0]; · iexact H0
      isplitl [H1]; · iexact H1
      isplitl [H2]; · iexact H2
      isplitl [H3]; · iexact H3
      iexact H4
    isplitl [Hs]; · iexact Hs
    iexists f5; iexact H5
  unfold owesE operands
  iintro ⟨⟨%W', HO⟩, Hz, ⟨H0, H1, H2, H3, H4⟩, Hs, H5⟩
  unfold bodyPost Φ₁ Dat.owesAt Pipeline.owesWithin
  isplitl [Hz Hs]
  · isplitl [Hz]; · iexact Hz
    iexact Hs
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  iapply (Entails.of_eq (owns_buf c cc0_stg5_0 (outAt m ρ c)).symm)
  iexists (outAt m ρ c)
  isplitr; · ipureintro; rfl
  iexact H5

set_option maxRecDepth 4000 in
theorem body_obligation (c : Dev nD) : BodyObligation (dats (F := F) m ρ 0 c) (defs₀ (F := F)) 𝒱₀ () Set.univ := fun t => by
  rw [fin_N t]
  rw [bigSep_W, bigSep_W]
  exact body_sound m ρ c

/-! ## What the launch deals -/

theorem ownSemFacts : Pipeline.OwnSemFacts cfg0.spec osem := by decide
theorem share_eq (c : Dev nD) (w : Fin cfg0.W) : (dats m ρ 0 c).share w = fullShare := by unfold Dat.share; split <;> rfl

theorem kcell_inj : Function.Injective (kcell : CIdx → GSem nD τ sig) := by
  rintro ⟨c, k⟩ ⟨c', k'⟩ h
  have h1 : c = c' := congrArg (fun g : GSem nD τ sig => g.1.1) h
  have h2 : k = k' := csem_inj (congrArg Prod.snd h)
  rw [h1, h2]
def cells : Finset (GSem nD τ sig) := Finset.univ.map ⟨kcell, kcell_inj⟩

/-- A device's own duties: two at its barrier cell, one at each exchange's. -/
abbrev TIdx : Type := Fin 2 ⊕ XIdx
abbrev tokOf (ct : Dev nD × TIdx) : GSem nD τ sig × ℕ × Fin 2 := match ct.2 with
  | .inl d => (barCell ct.1, 0, d)
  | .inr k => (((ct.1 : Dev nD) : Thread nD τ), osem k) |> fun g => (g, 0, 0)
theorem tokOf_inj : Function.Injective (tokOf : Dev nD × TIdx → GSem nD τ sig × ℕ × Fin 2) := by
  rintro ⟨c, j⟩ ⟨c', j'⟩ h
  have h1 : c = c' := by
    have := congrArg (fun x : GSem nD τ sig × ℕ × Fin 2 => x.1.1.1) h
    rcases j with j | j <;> rcases j' with j' | j' <;> exact this
  have hs := congrArg (fun x : GSem nD τ sig × ℕ × Fin 2 => x.1.2) h
  have hd := congrArg (fun x : GSem nD τ sig × ℕ × Fin 2 => x.2.2) h
  rcases j with j | j <;> rcases j' with j' | j'
  · exact Prod.ext h1 (congrArg Sum.inl hd)
  · exact absurd hs (fun e => xsem_ne_bar _ _ _ e.symm)
  · exact absurd hs (fun e => xsem_ne_bar _ _ _ e)
  · exact Prod.ext h1 (congrArg Sum.inr (osem_inj hs))
def toksAll : Finset (GSem nD τ sig × ℕ × Fin 2) := Finset.univ.map ⟨tokOf, tokOf_inj⟩

def u₀ : UU := (initOf (Pipeline.cells cfgs cellOf_inj) (Pipeline.launchToks cfgs cellOf_inj), initOf cells toksAll)

/-- The tokens of the duties at device `c`'s own cells. -/
def toks (c : Dev nD) : sProp 𝕄 :=
  iprop(dutyTok ER (barCell c) 0 0 ∗ dutyTok ER (barCell c) 0 1
    ∗ dutyTok ER (xCell 0 0 0 c) 0 0
    ∗ dutyTok ER (xCell 0 0 1 c) 0 0
    ∗ dutyTok ER (xCell 1 0 0 c) 0 0
    ∗ dutyTok ER (xCell 1 0 1 c) 0 0
    ∗ dutyTok ER (xCell 0 1 0 c) 0 0
    ∗ dutyTok ER (xCell 0 1 1 c) 0 0
    ∗ dutyTok ER (xCell 1 1 0 c) 0 0
    ∗ dutyTok ER (xCell 1 1 1 c) 0 0)

def G (c : Dev nD) : sProp 𝕄 :=
  iprop((bigSep Finset.univ fun k : Option XIdx => roundState ER (Rd (blk m ρ)) (kcell (c, k)) 0)
    ∗ (bigSep Finset.univ fun k : Option XIdx => iprop(atPos ER (kcell (c, k)) 0 ∅ 0 ∗ reached ER (kcell (c, k)) 0)) ∗ toks c)

omit [FloatOps F] in
theorem bigSep_cells (Φ : Option XIdx → sProp 𝕄) : bigSep Finset.univ Φ = bigSepL ([none, some (0, 0, 0), some (0, 0, 1), some (0, 1, 0), some (0, 1, 1), some (1, 0, 0), some (1, 0, 1), some (1, 1, 0), some (1, 1, 1)] : List (Option XIdx)) Φ :=
  bigSep_univ_eq_bigSepL _ (by decide) (by decide) Φ
omit [FloatOps F] in
theorem bigSep_toks (Φ : TIdx → sProp 𝕄) : bigSep Finset.univ Φ = bigSepL ([.inl 0, .inl 1, .inr (0, 0, 0), .inr (0, 0, 1), .inr (1, 0, 0), .inr (1, 0, 1), .inr (0, 1, 0), .inr (0, 1, 1), .inr (1, 1, 0), .inr (1, 1, 1)] : List TIdx) Φ :=
  bigSep_univ_eq_bigSepL _ (by decide) (by decide) Φ

theorem fund : BI.own (ER (initOf cells toksAll)) ⊢ (|==> bigSep Finset.univ (G m ρ) : sProp 𝕄) := by
  have hX (Φ : GSem nD τ sig → sProp 𝕄) : bigSep cells Φ = bigSep Finset.univ fun c : Dev nD => bigSep Finset.univ fun k : Option XIdx => Φ (kcell (c, k)) := by
    unfold cells; rw [bigSep_map, bigSep_univ_prod]; rfl
  have hT : bigSep toksAll (fun x => (dutyTok ER x.1 x.2.1 x.2.2 : sProp 𝕄)) = bigSep Finset.univ fun c : Dev nD => toks c := by
    unfold toksAll; rw [bigSep_map, bigSep_univ_prod]
    exact bigSep_congr fun c _ => by unfold toks; rw [bigSep_toks]; rfl
  iintro HX
  imod (Rounds.fund ER (Rd (blk m ρ)) cells toksAll) $$ HX with ⟨Hst, Hr, Hat, Htok⟩
  imodintro
  ihave Hst' := (Entails.of_eq (hX fun g => roundState ER (Rd (blk m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSepL ([(0, 0, 0), (0, 0, 1), (0, 1, 0), (0, 1, 1), (1, 0, 0), (1, 0, 1), (1, 1, 0), (1, 1, 1)] : List XIdx) fun k => semVal (kcell (c, some k)) 0 :=
  Pipeline.ownSems0_eq_of_list c osem _ (by decide) (by decide)
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's nine cells at zero are its own eight and the barrier. -/
theorem zeros_cells (c : Dev nD) : (zeros c : sProp 𝕄) = bigSep Finset.univ fun k : Option XIdx => semVal (kcell (c, k)) 0 := by
  rw [bigSep_cells]; rfl
omit [FloatOps F] in
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  rw [ownSems0_eq, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (blk m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq ((zeros_eq (F := F) c).symm.trans (zeros_cells c))) $$ [Hos Hus]
  · isplitl [Hus] <;> iassumption
  imod (show iprop((bigSep Finset.univ fun k : Option XIdx => semVal (kcell (c, k)) 0) ∗ bigSep Finset.univ fun k : Option XIdx => roundState ER (Rd (blk m ρ)) (kcell (c, k)) 0)
      ⊢ (|={Set.univ}=> bigSep Finset.univ fun k => iprop(∃ κ : ℕ, cellInv ER (Rd (blk m ρ)) κ (kcell (c, k))) : sProp 𝕄) from by
        rw [← bigSep_sep']
        exact (bigSep_mono fun k _ => (Rounds.body_intro ER (Rd (blk m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A partner's partner is oneself. -/
def parE (d : Fin 2) : Dev nD ≃ Dev nD := ⟨par d, par d, par_par d, par_par d⟩

omit [FloatOps F] in
/-- Each duty's token goes to the device that pays it. -/
theorem toks_around : (bigSep Finset.univ fun c : Dev nD => (toks c : sProp 𝕄)) ⊢ bigSep Finset.univ fun c : Dev nD => payToks c := by
  unfold toks payToks
  simp only [bigSep_sep']
  rw [bigSep_univ_equiv (parE 0) (fun c : Dev nD => (dutyTok ER (barCell c) 0 0 : sProp 𝕄)),
    bigSep_univ_equiv (parE 1) (fun c : Dev nD => (dutyTok ER (barCell c) 0 1 : sProp 𝕄)),
    bigSep_univ_equiv (parE (0 + 0)) (fun c : Dev nD => (dutyTok ER (xCell 0 1 0 c) 0 0 : sProp 𝕄)),
    bigSep_univ_equiv (parE (0 + 1)) (fun c : Dev nD => (dutyTok ER (xCell 0 1 1 c) 0 0 : sProp 𝕄)),
    bigSep_univ_equiv (parE (1 + 0)) (fun c : Dev nD => (dutyTok ER (xCell 1 1 0 c) 0 0 : sProp 𝕄)),
    bigSep_univ_equiv (parE (1 + 1)) (fun c : Dev nD => (dutyTok ER (xCell 1 1 1 c) 0 0 : sProp 𝕄))]
  exact BI.Entails.refl _

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (blk m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m ρ) := by
  rw [bigSep_sep', bigSep_sep', ← bigSep_univ_prod (fun ck : CIdx => iprop(∃ κ : ℕ, cellInv ER (Rd (blk m ρ)) κ (kcell ck))),
    bigSep_congr (s := Finset.univ) (fun (c : Dev nD) _ => bigSep_sep' Finset.univ (fun k : Option XIdx => (atPos ER (kcell (c, k)) 0 ∅ 0 : sProp 𝕄)) (fun k => reached ER (kcell (c, k)) 0)),
    bigSep_sep', ← bigSep_univ_prod (fun ck : CIdx => (reached ER (kcell ck) 0 : sProp 𝕄))]
  iintro ⟨HI, ⟨Hat, #HR⟩, Htok⟩
  ihave HK := (BI.bigSep_exists_pi Finset.univ (fun (ck : CIdx) (κ : ℕ) => (cellInv ER (Rd (blk m ρ)) κ (kcell ck) : sProp 𝕄))) $$ HI
  icases HK with ⟨%K, #HI⟩
  ihave Htk := (toks_around (F := F)) $$ Htok
  iapply (bigSep_with (R := records (blk m ρ) K) (Φ := fun c : Dev nD => iprop(positions c ∗ payToks c)) fun c _ => show _ ⊢ ghost m ρ c by
    unfold ghost; iintro H; iexists K; iexact H)
  isplitr
  · unfold records; isplitl; · iexact HI
    iexact HR
  · iapply ((Entails.of_eq (bigSep_sep' Finset.univ (fun c : Dev nD => bigSep Finset.univ fun k : Option XIdx => (atPos ER (kcell (c, k)) 0 ∅ 0 : sProp 𝕄)) payToks).symm).trans
      (bigSep_mono fun c _ => show _ ⊢ iprop(positions c ∗ payToks c) from Entails.of_eq (by unfold positions; rw [bigSep_cells]; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The launch's credit -/

section Credit
variable (d c : Dev nD)

theorem par_eq (e : Fin 2) : c = par e d ↔ d = par e c := ⟨fun h => by rw [h, par_par], fun h => by rw [h, par_par]⟩

theorem bar_at_bar (e : Fin 2) : tallyAt (barCell (par e d)) () 1 (barCell c) () = if d = par e c then 1 else 0 := by
  rw [tallyAt_apply]
  refine if_congr ⟨fun h => (par_eq d c e).mp (congrArg (fun g : GSem nD τ sig => g.1.1) h.1), fun h => ⟨?_, rfl⟩⟩ rfl rfl
  rw [(par_eq d c e).mpr h]
theorem bar_at_x (e p b : Fin 2) : tallyAt (barCell (par e d)) () 1 (xCell p 1 b c) () = 0 := by
  rw [tallyAt_apply, if_neg fun h => xsem_ne_bar _ _ _ (congrArg Prod.snd h.1)]
theorem x_at_bar (p b : Fin 2) : oR p b d (barCell c) () = 0 := by
  rw [tallyAt_apply, if_neg fun h => xsem_ne_bar _ _ _ (congrArg Prod.snd h.1).symm]
theorem x_at_x (p b p' b' : Fin 2) : oR p b d (xCell p' 1 b' c) () = if (p = p' ∧ b = b') ∧ d = peer p b c then N else 0 := by
  rw [tallyAt_apply]
  refine if_congr ⟨fun h => ?_, fun h => ⟨?_, rfl⟩⟩ rfl rfl
  · have h1 : (p', (1 : Fin 2), b') = (p, 1, b) := osem_inj (congrArg Prod.snd h.1)
    have hc : c = par (p + b) d := congrArg (fun g : GSem nD τ sig => g.1.1) h.1
    have hp : p' = p := congrArg Prod.fst h1
    have hb : b' = b := congrArg (fun x => x.2.2) h1
    exact ⟨⟨hp.symm, hb.symm⟩, (par_eq d c _).mp hc⟩
  · obtain ⟨⟨rfl, rfl⟩, h⟩ := h
    rw [(par_eq d c (p + b)).mpr h]

theorem owed_bar : O₀ d (barCell c) () = (if d = par 1 c then 1 else 0) + (if d = par 0 c then 1 else 0) := by
  unfold O₀ O₅ O₄ O₃ O₂ O₁
  simp only [Pi.add_apply, Finsupp.add_apply, Pi.zero_apply, Finsupp.zero_apply]
  rw [x_at_bar d c 1 1, x_at_bar d c 1 0, x_at_bar d c 0 1, x_at_bar d c 0 0, bar_at_bar, bar_at_bar]
  simp only [Nat.zero_add]
theorem owed_recv (p b : Fin 2) : O₀ d (xCell p 1 b c) () = if d = peer p b c then N else 0 := by
  unfold O₀ O₅ O₄ O₃ O₂ O₁
  simp only [Pi.add_apply, Finsupp.add_apply, Pi.zero_apply, Finsupp.zero_apply]
  rw [x_at_x d c 1 1, x_at_x d c 1 0, x_at_x d c 0 1, x_at_x d c 0 0, bar_at_x, bar_at_x]
  simp only [Nat.zero_add, Nat.add_zero]
  rcases (show p = 0 ∨ p = 1 by omega) with rfl | rfl <;> rcases (show b = 0 ∨ b = 1 by omega) with rfl | rfl <;> simp
end Credit

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (par 1 c) fun _ => 1, Finset.sum_ite_eq' Finset.univ (par 0 c) fun _ => 1, if_pos (Finset.mem_univ _), if_pos (Finset.mem_univ _)]
theorem launch_recv (p b : Fin 2) (c : Dev nD) :
    tallyOn (xCell p 1 b c) (launchCredit (Pipeline.owing O₀) 0 (xCell p 1 b c)) = (tallyAt (xCell p 1 b c) () N : CellTallies nD τ sig Unit) := by
  unfold tallyAt; refine congrArg _ (Finsupp.ext fun u => ?_); cases u
  rw [Pipeline.launchCredit_owing, Finsupp.single_eq_same, Finset.sum_congr rfl fun d _ => owed_recv d c p b,
    Finset.sum_ite_eq' Finset.univ (peer p b c) fun _ => N, if_pos (Finset.mem_univ _)]

/-- The cells a device waits at for others. -/
def waited : List (Option XIdx) := [none, some (0, 1, 0), some (0, 1, 1), some (1, 1, 0), some (1, 1, 1)]
def waitedS : Finset (SemLoc sig) := waited.toFinset.map ⟨csem, csem_inj⟩

omit [FloatOps F] in
theorem creds (c : Dev nD) : (Pipeline.launchCred O₀ c : sProp 𝕄) ⊢ credits c := by
  unfold Pipeline.launchCred credits
  rw [← launch_bar, ← launch_recv, ← launch_recv, ← launch_recv, ← launch_recv]
  refine (bigSep_subset (Finset.subset_univ waitedS)).trans ?_
  unfold waitedS
  rw [bigSep_map, bigSep_eq_bigSepL_of_eq waited rfl (by decide)]
  exact BI.Entails.refl _

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [zeros_eq]; unfold scratch
  iintro ⟨⟨Hu, Ho⟩, Hs⟩
  isplitl [Hu]; · iexact Hu
  isplitl [Ho]; · iexact Ho
  iexact Hs

theorem kind_stage : ∀ (w : Fin 6) (s : Fin ((cfg0.win w).nbuf)), kindOf (.dma ((cfg0.win w).sem s)) = none := by decide
theorem waits (c : Dev nD) : (levAts L lv : sProp 𝕄) ⊢ Pipeline.cellsWaits cfgs (dats m ρ) () 0 c :=
  Pipeline.cellsWaits_intro cfgs (dats m ρ) () 0 c fun w s t =>
    mayWait_above c _ 0 (by
      unfold lv; rw [if_neg (fun h => by cases h)]
      exact Nat.le_of_eq (by rw [show kindOf (SemLoc.dma ((cfg0.win w).sem s)) = none from kind_stage w s])) _ (by
      rcases t with ⟨_ | _, ht⟩
      · exact above_O₀ c
      · exact above_zero 0)

/-- What a window's array holds at the end. -/
def finalA (c : Dev nD) (w : Fin cfg0.W) : Buf (Elt F) ((cfg0.win w).arr.view.loc (c : Thread nD τ)) := (dats m ρ 0 c).arrAt w cfg0.N

set_option maxRecDepth 8000 in
/-- Every fair execution of the four devices ends, each window's array at `finalA` and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

/-- The result array ends at what the body staged. -/
theorem finalA_out (c : Dev nD) : finalA m ρ c (5 : Fin 6) = outAt m ρ c := by
  have h : (win0_5.blk (0 : Fin 1)).view.read (Elt F) (finalA m ρ c (5 : Fin 6)) = outAt m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  have hz : (fun a => (win0_5.index (0 : Fin 1)) a * main_v1.ty.shape.size a) = fun _ => 0 :=
    funext fun a => by fin_cases a <;> decide
  rw [← h]
  exact (Memref.read_access_unit_zero (Elt F) main_v1 hz (fun a => by fin_cases a <;> decide) _).symm

/-- The five arguments end as they began. -/
theorem run_frame : θ_run defs (onTc (τ := τ) (main (F := F))) (s₀ m ρ)
    (fun r => (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c (5 : Fin 6)).trans (finalA_out m ρ c),
    (h.1 c (0 : Fin 6)).trans (finalA_in m ρ c 0 rfl), (h.1 c (1 : Fin 6)).trans (finalA_in m ρ c 1 rfl),
    (h.1 c (2 : Fin 6)).trans (finalA_in m ρ c 2 rfl), (h.1 c (3 : Fin 6)).trans (finalA_in m ρ c 3 rfl),
    (h.1 c (4 : Fin 6)).trans (finalA_in m ρ c 4 rfl)⟩, h.2⟩) (run_main m ρ)

/-- What is staged is the argument array itself. -/
theorem blk_eq (c : Dev nD) : blk m ρ c = ⟨m ((c : Thread nD τ).loc main_arg0), m ((c : Thread nD τ).loc main_arg1), m ((c : Thread nD τ).loc main_arg2), m ((c : Thread nD τ).loc main_arg3), m ((c : Thread nD τ).loc main_arg4)⟩ := by
  have h0 : (win0_0.blk (0 : Fin 1)).view.read (Elt F) ((s₀ m ρ).mem ((c : Thread nD τ).loc main_arg0)) = m ((c : Thread nD τ).loc main_arg0) :=
    Memref.read_access_unit_zero (Elt F) main_arg0 (show (fun a => (win0_0.index (0 : Fin 1)) a * main_arg0.ty.shape.size a) = fun _ => 0 from funext fun a => by fin_cases a <;> decide) (fun a => by fin_cases a <;> decide) _
  have h1 : (win0_1.blk (0 : Fin 1)).view.read (Elt F) ((s₀ m ρ).mem ((c : Thread nD τ).loc main_arg1)) = m ((c : Thread nD τ).loc main_arg1) :=
    Memref.read_access_unit_zero (Elt F) main_arg1 (show (fun a => (win0_1.index (0 : Fin 1)) a * main_arg1.ty.shape.size a) = fun _ => 0 from funext fun a => by fin_cases a <;> decide) (fun a => by fin_cases a <;> decide) _
  have h2 : (win0_2.blk (0 : Fin 1)).view.read (Elt F) ((s₀ m ρ).mem ((c : Thread nD τ).loc main_arg2)) = m ((c : Thread nD τ).loc main_arg2) :=
    Memref.read_access_unit_zero (Elt F) main_arg2 (show (fun a => (win0_2.index (0 : Fin 1)) a * main_arg2.ty.shape.size a) = fun _ => 0 from funext fun a => by fin_cases a <;> decide) (fun a => by fin_cases a <;> decide) _
  have h3 : (win0_3.blk (0 : Fin 1)).view.read (Elt F) ((s₀ m ρ).mem ((c : Thread nD τ).loc main_arg3)) = m ((c : Thread nD τ).loc main_arg3) :=
    Memref.read_access_unit_zero (Elt F) main_arg3 (show (fun a => (win0_3.index (0 : Fin 1)) a * main_arg3.ty.shape.size a) = fun _ => 0 from funext fun a => by fin_cases a <;> decide) (fun a => by fin_cases a <;> decide) _
  have h4 : (win0_4.blk (0 : Fin 1)).view.read (Elt F) ((s₀ m ρ).mem ((c : Thread nD τ).loc main_arg4)) = m ((c : Thread nD τ).loc main_arg4) :=
    Memref.read_access_unit_zero (Elt F) main_arg4 (show (fun a => (win0_4.index (0 : Fin 1)) a * main_arg4.ty.shape.size a) = fun _ => 0 from funext fun a => by fin_cases a <;> decide) (fun a => by fin_cases a <;> decide) _
  unfold blk xBlk wBlk kBlk vBlk oBlk
  rw [h0, h1, h2, h3, h4]

end Cert.Butterfly

end
-- ==== Proof.Frames.lean ====
/-
# The frames

Each program runs, keeps its arguments and leaves every counter at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch

@[expose] public section

noncomputable section

namespace Cert.Proof

open Idealize.ShloMosaic Idealize.SL.Sem

/-- The two kernel texts have the same body table. -/
theorem bodies_eq (F : FTy → Type) [FloatOps F] : Cert.Kernel.defs₀ (F := F) = Cert.KernelIdeal.defs₀ (F := F) := by
  unfold Cert.Kernel.defs₀ Cert.KernelIdeal.defs₀
  refine congrArg Defs.onTc (funext fun l => funext fun a => ?_)
  obtain ⟨l, hl⟩ := l
  match l, hl with
  | 0, _ => rfl
theorem defs_eq (F : FTy → Type) [FloatOps F] : Cert.Kernel.defs (F := F) = Cert.KernelIdeal.defs (F := F) :=
  congrArg (Pipeline.defs (Cert.KernelIdeal.pcfgs (F := F))) (bodies_eq F)

/-- The kernel as printed runs, keeps its arguments and leaves every counter at zero: its text is the idealized one's. -/
theorem frame_kernel : Cert.quiescent_Kernel := fun m ρ _ => by
  have h := Cert.Butterfly.run_frame (F := Bits) m ρ
  rw [← defs_eq Bits] at h
  exact (θ_run Cert.Kernel.defs _ _).mono (fun _ h => ⟨fun c => (h.1 c).2, h.2⟩) h

/-- The idealized kernel runs, keeps its arguments and leaves every counter at zero. -/
theorem frame_ideal : Cert.quiescent_KernelIdeal := fun m ρ _ =>
  (θ_run Cert.KernelIdeal.defs _ _).mono (fun _ h => ⟨fun c => (h.1 c).2, h.2⟩) (Cert.Butterfly.run_frame (F := Ideal) m ρ)

/-- The reference declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.KVal.lean ====
/-
# What the kernel computes, entry by entry

At the ideal instance every stage of the kernel is read at an index: a query is a scaled row of products, a score a sum
over the head's lanes, a context and a denominator sums over the device's keys, and the result a product with the last
operand.
-/
module

public import proofs.«01_k».proof.Proof.Vals
public import Idealize.ShloMosaic.Lib.Pointwise
public import Idealize.ShloMosaic.Lib.Pointwise.IndexBridge

@[expose] public section

noncomputable section

namespace Cert.Butterfly

open Cert.KernelIdeal Cert.KernelIdeal.Gen
open Idealize.ShloMosaic Idealize.ShloMosaic.TcCoe

/-- Lane `e` of head `h`, among the heads side by side. -/
abbrev lane (h : Fin 4) (e : Fin 64) : Fin 256 := ⟨64 * h.val + e.val, by omega⟩

/-- One eighth, as the programs write it. -/
abbrev eighth : EReal := Ideal.ofBits .f32 0x3E000000#32

variable (B : Blk Ideal)

/-- Batch `b`'s row `i` is row `256 b + i` of the rows. -/
theorem xRows_apply (b : Fin 2) (i : Fin 256) (d : Fin 512) :
    xRows B b (ix2 i d) = B.X (ix2 ⟨256 * b.val + i.val, by omega⟩ d) := by
  unfold xRows
  pointwise
  refine congrArg B.X (funext fun a => Fin.ext ?_)
  rw [Rect.emb_apply]
  fin_cases a <;> simp [Rect.unit, ix2]

/-- Batch `b`'s keys, entry by entry. -/
theorem kRows_apply (b : Fin 2) (j k : Fin 256) : kRows B b (ix2 j k) = B.K (ix3 b j k) := by
  unfold kRows kLoad
  pointwise [k0_pay5]
  refine congrArg B.K (funext fun a => Fin.ext ?_)
  rw [Rect.emb_apply]
  fin_cases a <;> simp [Rect.unit, ix3]

/-- Batch `b`'s values, entry by entry. -/
theorem vRows_apply (b : Fin 2) (j k : Fin 256) : vRows B b (ix2 j k) = B.V (ix3 b j k) := by
  unfold vRows vLoad
  pointwise [k0_pay6]
  refine congrArg B.V (funext fun a => Fin.ext ?_)
  rw [Rect.emb_apply]
  fin_cases a <;> simp [Rect.unit, ix3]

/-- A query's entry: the row times the projection's column, scaled. -/
theorem qRows_apply (b : Fin 2) (i k : Fin 256) :
    qRows B b (ix2 i k) = (∑ d : Fin 512, B.X (ix2 ⟨256 * b.val + i.val, by omega⟩ d) * B.W (ix2 d k)) * eighth := by
  unfold qRows
  pointwise [k0_pay7, k0_pay1, xRows_apply]

/-- A weight: the exponential of the score where the mask is set, nothing elsewhere. -/
theorem probs_apply (h : Fin 4) (M : IVec S256x256 1) (kk qq : FVec Ideal S256x256 .bf16) (i j : Fin 256) :
    probs h M kk qq (ix2 i j)
      = Scalar.select (M (ix2 i j)) (Ideal.exp (∑ e : Fin 64, qq (ix2 i (lane h e)) * kk (ix2 j (lane h e)))) 0 := by
  pointwise [probs]

/-- A context's entry on one device: the weighted sum of the device's values. -/
theorem ctxPart_apply (h : Fin 4) (M : IVec S256x256 1) (kk vv qq : FVec Ideal S256x256 .bf16) (i : Fin 256) (e : Fin 64) :
    ctxPart h M kk vv qq (ix2 i e) = ∑ j : Fin 256, probs h M kk qq (ix2 i j) * vv (ix2 j (lane h e)) := by
  pointwise [ctxPart]

/-- A denominator on one device: the sum of the weights. -/
theorem denPart_apply (h : Fin 4) (M : IVec S256x256 1) (kk qq : FVec Ideal S256x256 .bf16) (i : Fin 256) :
    denPart h M kk qq (ix2 0 i) = ∑ j : Fin 256, probs h M kk qq (ix2 i j) := by
  pointwise [denPart, k0_pay4]

/-- A reciprocal, with the denominators' row turned into a column by the product with `k0_pay41`. -/
theorem rden_apply (T : FVec Ideal S260x256 .bf16) (i : Fin 256) (h : Fin 4) :
    rden T (ix2 i h) = Ideal.div 1 (∑ k : Fin 256, k0_pay41 (F := Ideal) (ix2 i k) * T (ix2 ⟨256 + h.val, by omega⟩ k)) := by
  pointwise [rden]

/-- That matrix is the identity. -/
theorem eye_apply (i k : Fin 256) : k0_pay41 (F := Ideal) (ix2 i k) = if i = k then 1 else 0 := by
  pointwise [k0_pay41]
  have h : IntOp.cmpi .eq (BitVec.ofNat 32 i.val) (BitVec.ofNat 32 k.val) = BitVec.ofBool (decide (i = k)) := by
    have hn : (BitVec.ofNat 32 i.val = BitVec.ofNat 32 k.val) ↔ i = k := by
      rw [← BitVec.toNat_inj, BitVec.toNat_ofNat, BitVec.toNat_ofNat, Fin.ext_iff]
      omega
    unfold IntOp.cmpi
    by_cases hik : i = k
    · simp [hik]
    · have hne : (BitVec.ofNat 32 i.val == BitVec.ofNat 32 k.val) = false := by
        rw [beq_eq_false_iff_ne]
        exact fun hh => hik (hn.mp hh)
      change BitVec.ofBool (BitVec.ofNat 32 i.val == BitVec.ofNat 32 k.val) = _
      rw [hne, decide_eq_false hik]
  rw [h]
  by_cases hik : i = k <;> simp [hik, Scalar.select]

/-- A head's normalised context: the packed context times the reciprocal. -/
theorem ctxHead_apply (T : FVec Ideal S260x256 .bf16) (h : Fin 4) (i : Fin 256) (e : Fin 64) :
    ctxHead T h (ix2 i e) = T (ix2 ⟨i.val, by omega⟩ (lane h e)) * rden T (ix2 i h) := by
  pointwise [ctxHead]

/-- The product with the last operand. -/
theorem pay54_apply (O : FVec Ideal S256x512 .bf16) (C : FVec Ideal S256x256 .bf16) (i : Fin 256) (n : Fin 512) :
    k0_pay54 (k0_pay46 O) C (ix2 i n) = ∑ k : Fin 256, C (ix2 i k) * O (ix2 k n) := by
  pointwise [k0_pay54, k0_pay46]

/-! ## The packed blocks and their sum over the devices -/

/-- The packed block's first 256 rows are the contexts, heads side by side. -/
theorem packV_top (M : IVec S256x256 1) (b : Fin 2) (i k : Fin 256) :
    packV B M b (ix2 ⟨i.val, by omega⟩ k)
      = ctxPart ⟨k.val / 64, by omega⟩ M (kRows B b) (vRows B b) (qRows B b) (ix2 i ⟨k.val % 64, by omega⟩) := by
  have hi : ((ix2 (⟨i.val, by omega⟩ : Fin 260) k : S260x256.Idx) 0).val < 256 := i.isLt
  unfold packV
  rw [dif_pos hi]
  rfl

/-- Its last four rows are the heads' denominators. -/
theorem packV_bot (M : IVec S256x256 1) (b : Fin 2) (h : Fin 4) (i : Fin 256) :
    packV B M b (ix2 ⟨256 + h.val, by omega⟩ i) = denPart h M (kRows B b) (qRows B b) (ix2 0 i) := by
  have hi : ¬ ((ix2 (⟨256 + h.val, by omega⟩ : Fin 260) i : S260x256.Idx) 0).val < 256 := by
    change ¬ 256 + h.val < 256
    omega
  unfold packV
  rw [dif_neg hi]
  have hh : (⟨256 + h.val - 256, by omega⟩ : Fin 4) = h := Fin.ext (by change 256 + h.val - 256 = h.val; omega)
  change denPart (⟨256 + h.val - 256, by omega⟩ : Fin 4) M (kRows B b) (qRows B b) (ix2 0 i) = _
  rw [hh]

variable (A : Dev nD → Blk Ideal)

/-- After both exchanges every device holds the sum of the four blocks. -/
theorem tot2_apply (c : Dev nD) (b : Fin 2) (x : S260x256.Idx) :
    tot2 A c b x = ∑ c' : Fin 4, own0 A (c' : Dev nD) b x := by
  have hp : ∀ (c : Fin 4) (b : Fin 2) (f : Fin 4 → EReal),
      (f c + f (par b c)) + (f (par (1 + b) c) + f (par b (par (1 + b) c))) = ∑ c' : Fin 4, f c' := by
    intro c b f
    rw [Fin.sum_univ_four]
    fin_cases c <;> fin_cases b
    · change (f 0 + f 1) + (f 3 + f 2) = _; ac_rfl
    · change (f 0 + f 3) + (f 1 + f 2) = _; ac_rfl
    · change (f 1 + f 0) + (f 2 + f 3) = _; ac_rfl
    · change (f 1 + f 2) + (f 0 + f 3) = _; ac_rfl
    · change (f 2 + f 3) + (f 1 + f 0) = _; ac_rfl
    · change (f 2 + f 1) + (f 3 + f 0) = _; ac_rfl
    · change (f 3 + f 2) + (f 0 + f 1) = _; ac_rfl
    · change (f 3 + f 0) + (f 2 + f 1) = _; ac_rfl
  exact hp c b fun c' => own0 A c' b x

/-! ## The result -/

/-- A reciprocal is that of the packed denominator. -/
theorem rden_eq (T : FVec Ideal S260x256 .bf16) (i : Fin 256) (h : Fin 4) :
    rden T (ix2 i h) = Ideal.div 1 (T (ix2 ⟨256 + h.val, by omega⟩ i)) := by
  rw [rden_apply]
  congr 1
  simp only [eye_apply, ite_mul, one_mul, zero_mul, Finset.sum_ite_eq, Finset.mem_univ, if_true]

/-- The weight of key `j` of device `c` for query `i`, before the division. -/
def pw (c : Dev nD) (b : Fin 2) (h : Fin 4) (i j : Fin 256) : EReal :=
  probs h (maskAt c) (kRows (A c) b) (qRows (A c) b) (ix2 i j)

/-- A normalised context: over all devices' keys, the weighted sum of the values times the reciprocal of the weights' sum. -/
theorem ctxRows_apply (c : Dev nD) (b : Fin 2) (i k : Fin 256) :
    ctxRows (tot2 A c b) (ix2 i k)
      = (∑ c' : Fin 4, ∑ j : Fin 256, pw A c' b ⟨k.val / 64, by omega⟩ i j * (A c').V (ix3 b j k))
          * Ideal.div 1 (∑ c' : Fin 4, ∑ j : Fin 256, pw A c' b ⟨k.val / 64, by omega⟩ i j) := by
  have hk : lane ⟨k.val / 64, by omega⟩ ⟨k.val % 64, by omega⟩ = k := Fin.ext (Nat.div_add_mod _ _)
  have e : ctxRows (tot2 A c b) (ix2 i k)
      = ctxHead (tot2 A c b) ⟨k.val / 64, by omega⟩ (ix2 i ⟨k.val % 64, by omega⟩) := rfl
  have hc : ∀ c' : Fin 4, own0 A c' b (ix2 ⟨i.val, by omega⟩ k)
      = ∑ j : Fin 256, pw A c' b ⟨k.val / 64, by omega⟩ i j * (A c').V (ix3 b j k) := by
    intro c'
    refine (packV_top (A c') (maskAt c') b i k).trans ((ctxPart_apply _ _ _ _ _ _ _).trans ?_)
    rw [hk]
    exact Finset.sum_congr rfl fun j _ => by rw [vRows_apply]; rfl
  have hd : ∀ c' : Fin 4, own0 A c' b (ix2 ⟨256 + (⟨k.val / 64, by omega⟩ : Fin 4).val, by omega⟩ i)
      = ∑ j : Fin 256, pw A c' b ⟨k.val / 64, by omega⟩ i j := fun c' =>
    (packV_bot (A c') (maskAt c') b ⟨k.val / 64, by omega⟩ i).trans (denPart_apply _ _ _ _ _)
  rw [e, ctxHead_apply, rden_eq, hk, tot2_apply, tot2_apply, Finset.sum_congr rfl fun c' _ => hc c', Finset.sum_congr rfl fun c' _ => hd c']

/-- The result's entry: the row of contexts times the last operand's column. -/
theorem outAll_apply (c : Dev nD) (R : Fin 512) (n : Fin 512) :
    outAll A c (ix2 R n) = ∑ k : Fin 256, ctxRows (tot2 A c ⟨R.val / 256, by omega⟩) (ix2 ⟨R.val % 256, by omega⟩ k) * (A c).O (ix2 k n) := by
  rw [← pay54_apply]
  rfl

end Cert.Butterfly

end
-- ==== Proof.RefTerms.lean ====
/-
# The reference's result, in stages

The printed term of the reference's result is long because it repeats what later operations read twice. Here each stage
has a name, and the term is the last of them.
-/
module

public import proofs.«01_k».proof.Proof.Gen.ReferenceIdeal.Run

@[expose] public section

noncomputable section

namespace Cert.Butterfly.Ref

open Cert.ReferenceIdeal Cert.ReferenceIdeal.Gen
open Idealize.ShloMosaic Idealize.ShloMosaic.TcCoe

/-! ## The mask -/

/-- Each query's block number, as the host's floor division writes it. -/
def qDiv : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))
/-- Each key's block number. -/
def kDiv : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))
/-- The query blocks over the square of queries and keys. -/
def qBlk : IVec S256x1024 32 :=
  broadcastInDim S256x1024 ![0, 1] bcast_S256x1_S256x1024_0_1 (broadcastInDim S256x1 ![0] bcast_S256_S256x1_0 qDiv)
/-- The key blocks as one row, and over the square. -/
def kRow : IVec S1x1024 32 := broadcastInDim S1x1024 ![1] bcast_S1024_S1x1024_1 kDiv
def kBlk : IVec S256x1024 32 := broadcastInDim S256x1024 ![0, 1] bcast_S1x1024_S256x1024_0_1 kRow
/-- The divisor three, guarded against being zero. -/
def three : IVec S_ 32 :=
  select (cmpi .eq (id (constantI S_ 32 3#32)) (constantI S_ 32 0#32)) (constantI S_ 32 1#32) (id (constantI S_ 32 3#32))
/-- The remainder of the sum of the blocks by three, of the dividend's sign and then of the divisor's. -/
def remT : IVec S256x1024 32 := Host.remsi (addi qBlk kBlk) (broadcastInDim S256x1024 ![] bcast_S_S256x1024 three)
def remF : IVec S256x1024 32 :=
  select (andi (cmpi .ne (cmpi .slt remT (broadcastInDim S256x1024 ![] bcast_S_S256x1024 (constantI S_ 32 0#32)))
        (broadcastInDim S256x1024 ![] bcast_S_S256x1024 (cmpi .slt three (constantI S_ 32 0#32))))
      (cmpi .ne remT (broadcastInDim S256x1024 ![] bcast_S_S256x1024 (constantI S_ 32 0#32))))
    (addi remT (broadcastInDim S256x1024 ![] bcast_S_S256x1024 three)) remT
/-- The mask. -/
def mask : IVec S256x1024 1 :=
  ori (ori (cmpi .eq qBlk kBlk) (broadcastInDim S256x1024 ![0, 1] bcast_S1x1024_S256x1024_0_1
      (cmpi .eq kRow (broadcastInDim S1x1024 ![] bcast_S_S1x1024 (constantI S_ 32 0#32)))))
    (cmpi .eq remF (broadcastInDim S256x1024 ![] bcast_S_S256x1024 (constantI S_ 32 0#32)))
/-- Whether a query sees any key. -/
def keep : IVec S256 1 := Host.reduce IntOp.ori mask (constantI S_ 1 0#1) reducesTo_S256x1024_S256_d1 h_S_

/-! ## The attention -/

variable {F : FTy → Type} [FloatOps F]
variable (X : FVec F S512x512 .bf16) (W : FVec F S512x256 .bf16) (K V : FVec F S2x1024x256 .bf16) (O : FVec F S256x512 .bf16)

/-- The queries, by head. -/
def q : FVec F S2x256x4x64 .f32 :=
  extf .f32 (shapeCast _ (truncf .bf16 (Host.dotGeneral dot_S2x256x512_S512x256_S2x256x256_2_0_01_1_n_n none
    (extf .f32 (shapeCast _ X shapeCasts_S512x512_S2x256x512) bitsLt_bf16_f32) (extf .f32 W bitsLt_bf16_f32)) bitsLt_bf16_f32)
    shapeCasts_S2x256x256_S2x256x4x64) bitsLt_bf16_f32
/-- The keys and the values, by head. -/
def heads (K : FVec F S2x1024x256 .bf16) : FVec F S2x1024x4x64 .f32 :=
  shapeCast _ (extf .f32 K bitsLt_bf16_f32) shapeCasts_S2x1024x256_S2x1024x4x64
/-- The scores, minus infinity where masked. -/
def scores : FVec F S2x4x256x1024 .f32 :=
  select (broadcastInDim S2x4x256x1024 ![0, 1, 2, 3] bcast_S1x1x256x1024_S2x4x256x1024_0_1_2_3
      (broadcastInDim S1x1x256x1024 ![2, 3] bcast_S256x1024_S1x1x256x1024_2_3 mask))
    (mulf (extf .f32 (truncf .bf16 (Host.dotGeneral dot_S2x256x4x64_S2x1024x4x64_S2x4x256x1024_3_3_1_1_02_02 none (q X W) (heads K))
        bitsLt_bf16_f32) bitsLt_bf16_f32)
      (broadcastInDim S2x4x256x1024 ![] bcast_S_S2x4x256x1024 (constant S_ .f32 0x3E000000#32)))
    (broadcastInDim S2x4x256x1024 ![] bcast_S_S2x4x256x1024 (id (constant S_ .f32 0xFF800000#32)))
/-- The exponentials of scores less their row's greatest. -/
def expo (S : FVec F S2x4x256x1024 .f32) : FVec F S2x4x256x1024 .f32 :=
  Host.exp (subf S (broadcastInDim S2x4x256x1024 ![0, 1, 2, 3] bcast_S2x4x256x1_S2x4x256x1024_0_1_2_3
    (broadcastInDim S2x4x256x1 ![0, 1, 2] bcast_S2x4x256_S2x4x256x1_0_1_2
      (Host.reduce FloatOps.maximumf S (constant S_ .f32 0xFF800000#32) reducesTo_S2x4x256x1024_S2x4x256_d3 h_S_))))
/-- The denominators. -/
def den (E : FVec F S2x4x256x1024 .f32) : FVec F S2x4x256x1 .f32 :=
  select (broadcastInDim S2x4x256x1 ![0, 1, 2, 3] bcast_S1x1x256x1_S2x4x256x1_0_1_2_3 (broadcastInDim S1x1x256x1 ![2] bcast_S256_S1x1x256x1_2 keep))
    (broadcastInDim S2x4x256x1 ![0, 1, 2] bcast_S2x4x256_S2x4x256x1_0_1_2
      (Host.reduceAdd E (constant S_ .f32 0x00000000#32) reducesTo_S2x4x256x1024_S2x4x256_d3 h_S_))
    (broadcastInDim S2x4x256x1 ![] bcast_S_S2x4x256x1 (id (constant S_ .f32 0x3F800000#32)))
/-- The weights. -/
def weights (E : FVec F S2x4x256x1024 .f32) : FVec F S2x4x256x1024 .f32 :=
  select (broadcastInDim S2x4x256x1024 ![0, 1, 2, 3] bcast_S1x1x256x1_S2x4x256x1024_0_1_2_3 (broadcastInDim S1x1x256x1 ![2] bcast_S256_S1x1x256x1_2 keep))
    (Host.divf E (broadcastInDim S2x4x256x1024 ![0, 1, 2, 3] bcast_S2x4x256x1_S2x4x256x1024_0_1_2_3 (den E)))
    (broadcastInDim S2x4x256x1024 ![] bcast_S_S2x4x256x1024 (id (constant S_ .f32 0x00000000#32)))
/-- The contexts, heads side by side. -/
def ctx (P : FVec F S2x4x256x1024 .f32) : FVec F S2x256x256 .f32 :=
  shapeCast _ (transpose S2x256x4x64 [0, 3, 1, 2] (Host.dotGeneral dot_S2x1024x4x64_S2x4x256x1024_S2x4x64x256_1_3_3_2_02_01 none
    (heads V) P) transposes_S2x4x64x256_S2x256x4x64_0_3_1_2) shapeCasts_S2x256x4x64_S2x256x256
/-- The result. -/
def out : FVec F S512x512 .bf16 :=
  shapeCast _ (truncf .bf16 (Host.dotGeneral dot_S2x256x256_S256x512_S2x256x512_2_0_01_1_n_n none
    (ctx V (weights (expo (scores X W K)))) (extf .f32 O bitsLt_bf16_f32)) bitsLt_bf16_f32) shapeCasts_S2x256x512_S512x512

set_option maxRecDepth 8192 in
/-- The reference's printed result is the last stage. -/
theorem res_eq (m : (ℓ : Loc nD τ sig) → Buf (Elt F) ℓ) (c : Dev nD) :
    Cert.ReferenceIdeal.Value.res_main_v58 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.Butterfly.Ref

end
-- ==== Proof.RVal.lean ====
/-
# What the reference computes, entry by entry
-/
module

public import proofs.«01_k».proof.Proof.RefTerms
public import Idealize.ShloMosaic.Lib.Pointwise

@[expose] public section

noncomputable section

namespace Cert.Butterfly.Ref

open Cert.ReferenceIdeal Cert.ReferenceIdeal.Gen
open Idealize.ShloMosaic Idealize.ShloMosaic.TcCoe

variable (X : FVec Ideal S512x512 .bf16) (W : FVec Ideal S512x256 .bf16) (K V : FVec Ideal S2x1024x256 .bf16) (O : FVec Ideal S256x512 .bf16)

/-- Head `h`'s lane `e` among all the lanes. -/
abbrev lane (h : Fin 4) (e : Fin 64) : Fin 256 := ⟨64 * h.val + e.val, by omega⟩

/-- The scale of the scores. -/
abbrev eighth : EReal := Ideal.ofBits .f32 0x3E000000#32

/-- A query's entry: the row times the projection's column. -/
theorem q_apply (b : Fin 2) (i : Fin 256) (h : Fin 4) (e : Fin 64) :
    q X W (ix4 b i h e) = ∑ d : Fin 512, X (ix2 ⟨256 * b.val + i.val, by omega⟩ d) * W (ix2 d (lane h e)) := by
  pointwise [q]
  have h1 : ∀ p p', (⟨b.val * 256 + i.val, p⟩ : Fin 512) = ⟨256 * b.val + i.val, p'⟩ := fun p p' => Fin.ext (by simp only; omega)
  have h2 : ∀ p, (⟨h.val * 64 + e.val, p⟩ : Fin 256) = lane h e := fun p => Fin.ext (by simp only; omega)
  exact Finset.sum_congr rfl fun d _ => congrArg₂ (· * ·) (congrArg X (congrArg (fun z => ix2 z d) (h1 _ _))) (congrArg W (congrArg (ix2 d) (h2 _)))

/-- A head's lanes among all the lanes. -/
theorem heads_apply (b : Fin 2) (j : Fin 1024) (h : Fin 4) (e : Fin 64) :
    heads K (ix4 b j h e) = K (ix3 b j (lane h e)) := by
  pointwise [heads]
  have h2 : ∀ p, (⟨h.val * 64 + e.val, p⟩ : Fin 256) = lane h e := fun p => Fin.ext (by simp only; omega)
  exact congrArg K (congrArg (ix3 b j) (h2 _))

/-- The word of minus infinity is the least extended real. -/
theorem ofBits_ninf : Ideal.ofBits .f32 0xFF800000#32 = ⊥ := by
  simp [Ideal.ofBits, Ideal.ieee]

/-- A score: the scaled dot product where the mask is set, minus infinity elsewhere. -/
theorem scores_apply (b : Fin 2) (h : Fin 4) (i : Fin 256) (j : Fin 1024) :
    scores X W K (ix4 b h i j)
      = Scalar.select (mask (ix2 i j)) ((∑ e : Fin 64, q X W (ix4 b i h e) * heads K (ix4 b j h e)) * eighth) ⊥ := by
  rw [← ofBits_ninf]
  pointwise [scores]
  rfl

/-- The exponential of a score less its row's greatest. -/
theorem expo_apply (S : FVec Ideal S2x4x256x1024 .f32) (b : Fin 2) (h : Fin 4) (i : Fin 256) (j : Fin 1024) :
    expo S (ix4 b h i j)
      = Ideal.exp (S (ix4 b h i j) - Finset.fold max (⊥ : EReal) (fun J : Fin 1024 => S (ix4 b h i J)) Finset.univ) := by
  rw [← ofBits_ninf]
  pointwise [expo]

/-- Whether a query sees any key is the `or` of its row of the mask. -/
theorem keep_apply (i : Fin 256) : keep (ix1 i) = Finset.fold IntOp.ori 0#1 (fun J : Fin 1024 => mask (ix2 i J)) Finset.univ := by
  pointwise [keep]

/-- A denominator of a query that sees a key: its row's sum. -/
theorem den_apply (E : FVec Ideal S2x4x256x1024 .f32) (b : Fin 2) (h : Fin 4) (i : Fin 256) (hi : keep (ix1 i) = 1#1) :
    den E (ix4 b h i 0) = ∑ J : Fin 1024, E (ix4 b h i J) := by
  pointwise [den]
  rw [hi]
  rfl

/-- A weight, guarded by whether the query sees a key. -/
theorem weights_select (E : FVec Ideal S2x4x256x1024 .f32) (b : Fin 2) (h : Fin 4) (i : Fin 256) (j : Fin 1024) :
    weights E (ix4 b h i j)
      = Scalar.select (keep (ix1 i)) (Ideal.div (E (ix4 b h i j)) (den E (ix4 b h i 0))) (id (constant (F := Ideal) S_ .f32 0x00000000#32) ix0) := by
  pointwise [weights]

/-- A weight of a query that sees a key. -/
theorem weights_apply (E : FVec Ideal S2x4x256x1024 .f32) (b : Fin 2) (h : Fin 4) (i : Fin 256) (j : Fin 1024) (hi : keep (ix1 i) = 1#1) :
    weights E (ix4 b h i j) = Ideal.div (E (ix4 b h i j)) (∑ J : Fin 1024, E (ix4 b h i J)) := by
  rw [weights_select, hi, den_apply E b h i hi]
  exact if_pos rfl

/-- A context's entry: the weighted sum of the values. -/
theorem ctx_apply (P : FVec Ideal S2x4x256x1024 .f32) (b : Fin 2)  (i : Fin 256) (k : Fin 256) :
    ctx V P (ix3 b i k) = ∑ J : Fin 1024, V (ix3 b J k) * P (ix4 b ⟨k.val / 64, by omega⟩ i J) := by
  have hk : lane ⟨k.val / 64, by omega⟩ ⟨k.val % 64, by omega⟩ = k := Fin.ext (Nat.div_add_mod _ _)
  pointwise [ctx]
  exact Finset.sum_congr rfl fun J _ => by rw [heads_apply, hk]

/-- The result's entry: the row of contexts times the last operand's column. -/
theorem out_apply (R n : Fin 512) :
    out X W K V O (ix2 R n)
      = ∑ k : Fin 256, ctx V (weights (expo (scores X W K))) (ix3 ⟨R.val / 256, by omega⟩ ⟨R.val % 256, by omega⟩ k) * O (ix2 k n) := by
  pointwise [out]

end Cert.Butterfly.Ref

end
-- ==== Proof.Mask.lean ====
/-
# Which keys a query sees

The kernel's mask on a device's keys and the reference's mask on all of them are the same one: a query block sees a key
block that is its own, that is the first, or whose number and its own add up to a multiple of three.
-/
module

public import proofs.«01_k».proof.Proof.RefTerms
public import proofs.«01_k».proof.Proof.Vals
public import Idealize.ShloMosaic.Lib.Pointwise

@[expose] public section

noncomputable section

namespace Cert.Butterfly

open Idealize.ShloMosaic Idealize.ShloMosaic.TcCoe

/-- Whether query block `a` sees key block `b`. -/
def sees (a b : ℕ) : Bool := a == b || b == 0 || (a + b) % 3 == 0

/-! ## The block numbers -/

/-- The kernel's column numbers. -/
theorem iota_apply (i j : Fin 256) :
    (iota .tc Cert.KernelIdeal.S256x256 32 [1] Cert.KernelIdeal.Gen.iota_S256x256_d1_w32) (ix2 i j) = BitVec.ofNat 32 j.val := by
  pointwise

/-- The reference's query blocks: the query's number over 64. -/
theorem qDiv_apply (i : Fin 256) : Ref.qDiv (ix1 i) = BitVec.ofNat 32 (i.val / 64) := by
  pointwise [Ref.qDiv]
  simp only [id, constantI]
  revert i
  decide +kernel

/-- The reference's key blocks: the key's number over 64. -/
theorem kDiv_apply (i : Fin 1024) : Ref.kDiv (ix1 i) = BitVec.ofNat 32 (i.val / 64) := by
  pointwise [Ref.kDiv]
  simp only [id, constantI]
  revert i
  decide +kernel

/-- The kernel's query blocks. -/
theorem k0_pay2_apply (i j : Fin 256) : Cert.KernelIdeal.Gen.k0_pay2 (ix2 i j) = BitVec.ofNat 32 (i.val / 64) := by
  pointwise [Cert.KernelIdeal.Gen.k0_pay2]
  revert i
  decide +kernel

/-- The kernel's floor division of a lane's word by the block length. -/
def laneDiv (l : BitVec 32) : BitVec 32 :=
  Scalar.select
    (IntOp.andi
      (IntOp.cmpi .ne
        (IntOp.subi (BitVec.setWidth 32 (IntOp.cmpi .sgt l 0#32)) (BitVec.setWidth 32 (IntOp.cmpi .slt l 0#32)))
        (Scalar.subi (Scalar.extui (Scalar.cmpi .sgt 64#32 0#32)) (Scalar.extui (Scalar.cmpi .slt 64#32 0#32))))
      (IntOp.cmpi .ne (IntOp.remsi .vector l 64#32) 0#32))
    (IntOp.subi (IntOp.divsi .vector l 64#32) 1#32) (IntOp.divsi .vector l 64#32)

/-- The kernel's floor division is the division of naturals. -/
theorem laneDiv_apply (j : Fin 256) : laneDiv (BitVec.ofNat 32 j.val) = BitVec.ofNat 32 (j.val / 64) := by
  revert j
  decide +kernel

/-- The kernel's mask of a query block and a lane. -/
theorem k0_pay3_apply (a : BitVec 32) (q l : IVec Cert.KernelIdeal.S256x256 32) (i j : Fin 256) :
    Cert.KernelIdeal.Gen.k0_pay3 a q l (ix2 i j)
      = IntOp.ori (IntOp.ori (IntOp.cmpi .eq (q (ix2 i j)) (IntOp.addi (laneDiv (l (ix2 i j))) (Scalar.muli a 4#32)))
            (IntOp.cmpi .eq (IntOp.addi (laneDiv (l (ix2 i j))) (Scalar.muli a 4#32)) 0#32))
          (IntOp.cmpi .eq (IntOp.remsi .vector (IntOp.addi (q (ix2 i j)) (IntOp.addi (laneDiv (l (ix2 i j))) (Scalar.muli a 4#32))) 3#32) 0#32) := by
  unfold laneDiv
  pointwise [Cert.KernelIdeal.Gen.k0_pay3]

/-! ## The masks -/

/-- The kernel's mask of a device, a query block and a key block of the device's is the pattern. -/
theorem mask_kernel : ∀ (c : Fin 4) (a b : Fin 4),
    IntOp.ori (IntOp.ori (IntOp.cmpi .eq (BitVec.ofNat 32 a.val) (IntOp.addi (BitVec.ofNat 32 b.val)
            (Scalar.muli (Scalar.remsi (Scalar.divsi (Dev.word (c : Dev Cert.KernelIdeal.nD)) 1#32) 4#32) 4#32)))
          (IntOp.cmpi .eq (IntOp.addi (BitVec.ofNat 32 b.val)
            (Scalar.muli (Scalar.remsi (Scalar.divsi (Dev.word (c : Dev Cert.KernelIdeal.nD)) 1#32) 4#32) 4#32)) 0#32))
        (IntOp.cmpi .eq (IntOp.remsi .vector (IntOp.addi (BitVec.ofNat 32 a.val) (IntOp.addi (BitVec.ofNat 32 b.val)
            (Scalar.muli (Scalar.remsi (Scalar.divsi (Dev.word (c : Dev Cert.KernelIdeal.nD)) 1#32) 4#32) 4#32))) 3#32) 0#32)
      = BitVec.ofBool (sees a.val (4 * c.val + b.val)) := by
  decide +kernel

/-- A device's mask is the pattern at its own keys. -/
theorem maskAt_apply (c : Fin 4) (i j : Fin 256) :
    maskAt c (ix2 i j) = BitVec.ofBool (sees (i.val / 64) ((256 * c.val + j.val) / 64)) := by
  have e : (256 * c.val + j.val) / 64 = 4 * c.val + j.val / 64 := by omega
  unfold maskAt
  rw [k0_pay3_apply, k0_pay2_apply, iota_apply, laneDiv_apply, e]
  exact mask_kernel c ⟨i.val / 64, by omega⟩ ⟨j.val / 64, by omega⟩

/-- The reference's mask of two block numbers. -/
def refMask (x y : BitVec 32) : BitVec 1 :=
  IntOp.ori (IntOp.ori (IntOp.cmpi .eq x y) (IntOp.cmpi .eq y 0#32))
    (IntOp.cmpi .eq
      (Scalar.select
        (IntOp.andi
          (IntOp.cmpi .ne
            (IntOp.cmpi .slt (IntOp.remsi .host (IntOp.addi x y) (Scalar.select (IntOp.cmpi .eq 3#32 0#32) (1#32) 3#32)) 0#32)
            (IntOp.cmpi .slt (Scalar.select (IntOp.cmpi .eq 3#32 0#32) (1#32) 3#32) 0#32))
          (IntOp.cmpi .ne (IntOp.remsi .host (IntOp.addi x y) (Scalar.select (IntOp.cmpi .eq 3#32 0#32) (1#32) 3#32)) 0#32))
        (IntOp.addi (IntOp.remsi .host (IntOp.addi x y) (Scalar.select (IntOp.cmpi .eq 3#32 0#32) (1#32) 3#32))
          (Scalar.select (IntOp.cmpi .eq 3#32 0#32) (1#32) 3#32))
        (IntOp.remsi .host (IntOp.addi x y) (Scalar.select (IntOp.cmpi .eq 3#32 0#32) (1#32) 3#32)))
      0#32)

/-- The reference's mask of two block numbers is the pattern. -/
theorem refMask_apply : ∀ (a : Fin 4) (b : Fin 16), refMask (BitVec.ofNat 32 a.val) (BitVec.ofNat 32 b.val) = BitVec.ofBool (sees a.val b.val) := by
  decide +kernel

/-- The reference's mask is the pattern. -/
theorem mask_apply (i : Fin 256) (j : Fin 1024) : Ref.mask (ix2 i j) = BitVec.ofBool (sees (i.val / 64) (j.val / 64)) := by
  have e : Ref.mask (ix2 i j) = refMask (Ref.qDiv (ix1 i)) (Ref.kDiv (ix1 j)) := by
    unfold refMask
    pointwise [Ref.mask, Ref.remF, Ref.remT, Ref.three, Ref.qBlk, Ref.kBlk, Ref.kRow]
    rfl
  rw [e, qDiv_apply, kDiv_apply]
  exact refMask_apply ⟨i.val / 64, by omega⟩ ⟨j.val / 64, by omega⟩

end Cert.Butterfly

end
-- ==== Proof.Model.lean ====
/-
# Dividing by the sum of the exponentials

For real scores, the reference's weights (the exponentials of the scores less the greatest, over their sum, the masked
scores being minus infinity) give the same weighted sum as the kernel's sums: the exponentials of the scores themselves,
nothing where masked, multiplied by the values and summed, times the reciprocal of their own sum.
-/
module

public import Idealize.ShloMosaic.Lib.Pointwise

@[expose] public section

noncomputable section

namespace Cert.Butterfly

open Idealize.ShloMosaic

/-- A sum of reals is the same sum in the extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A nonnegative real factor goes into a sum of extended reals. -/
theorem sum_mul_real {ι : Type} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The quotient of two reals, the second not zero, is the reals' own. -/
theorem div_real (x y : ℝ) (hy : y ≠ 0) : Ideal.div (x : EReal) (y : EReal) = ((x * y⁻¹ : ℝ) : EReal) := by
  unfold Ideal.div
  rw [if_neg (by exact_mod_cast hy), EReal.coe_mul, EReal.coe_inv]

/-- A selection on a set bit takes the first, and on a clear bit the second. -/
theorem select_pos {α : Type} {c : BitVec 1} (h : c = 1#1) (a b : α) : Scalar.select c a b = a := if_pos h
theorem select_neg {α : Type} {c : BitVec 1} (h : ¬ c = 1#1) (a b : α) : Scalar.select c a b = b := if_neg h

variable {ι : Type} [Fintype ι]

/-- The weighted sums agree. -/
theorem softmax_div (vis : ι → BitVec 1) (s : ι → ℝ) (V : ι → EReal) (h : ∃ j, vis j = 1#1) :
    ∑ j, V j * Ideal.div
        (Ideal.exp (Scalar.select (vis j) (s j : EReal) ⊥ - Finset.fold max (⊥ : EReal) (fun J => Scalar.select (vis J) (s J : EReal) ⊥) Finset.univ))
        (∑ j', Ideal.exp (Scalar.select (vis j') (s j' : EReal) ⊥
          - Finset.fold max (⊥ : EReal) (fun J => Scalar.select (vis J) (s J : EReal) ⊥) Finset.univ))
      = (∑ j, Scalar.select (vis j) (Ideal.exp (s j : EReal)) 0 * V j) * Ideal.div 1 (∑ j, Scalar.select (vis j) (Ideal.exp (s j : EReal)) 0) := by
  obtain ⟨j0, hj0⟩ := h
  -- the greatest score is a real
  obtain ⟨μ, hμ⟩ : ∃ μ : ℝ, Finset.fold max (⊥ : EReal) (fun J => Scalar.select (vis J) (s J : EReal) ⊥) Finset.univ = (μ : EReal) := by
    have hlt : Finset.fold max (⊥ : EReal) (fun J => Scalar.select (vis J) (s J : EReal) ⊥) Finset.univ < ⊤ := by
      rw [Finset.fold_max_lt]
      refine ⟨bot_lt_top, fun x _ => ?_⟩
      by_cases hx : vis x = 1#1
      · rw [select_pos hx]; exact EReal.coe_lt_top _
      · rw [select_neg hx]; exact bot_lt_top
    have hgt : (s j0 : EReal) ≤ Finset.fold max (⊥ : EReal) (fun J => Scalar.select (vis J) (s J : EReal) ⊥) Finset.univ := by
      rw [Finset.le_fold_max]
      refine Or.inr ⟨j0, Finset.mem_univ _, ?_⟩
      rw [select_pos hj0]
    exact ⟨_, (EReal.coe_toReal hlt.ne (lt_of_lt_of_le (EReal.bot_lt_coe _) hgt).ne').symm⟩
  rw [hμ]
  -- the exponentials as reals
  let e : ι → ℝ := fun j => if vis j = 1#1 then Real.exp (s j) else 0
  have hp : ∀ j, Scalar.select (vis j) (Ideal.exp (s j : EReal)) 0 = (e j : EReal) := by
    intro j
    by_cases hj : vis j = 1#1
    · rw [select_pos hj]; simp only [e, if_pos hj]; rfl
    · rw [select_neg hj]; simp only [e, if_neg hj]; rfl
  have hE : ∀ j, Ideal.exp (Scalar.select (vis j) (s j : EReal) ⊥ - (μ : EReal)) = ((e j * Real.exp (-μ) : ℝ) : EReal) := by
    intro j
    by_cases hj : vis j = 1#1
    · rw [select_pos hj, ← EReal.coe_sub]
      simp only [e, if_pos hj]
      rw [← Real.exp_add, ← sub_eq_add_neg]; rfl
    · rw [select_neg hj, EReal.bot_sub]
      simp only [e, if_neg hj, zero_mul]; rfl
  have he : ∀ j, 0 ≤ e j := fun j => by
    simp only [e]; split
    · exact (Real.exp_pos _).le
    · exact le_rfl
  have hD : 0 < ∑ j, e j := by
    refine Finset.sum_pos' (fun j _ => he j) ⟨j0, Finset.mem_univ _, ?_⟩
    simp only [e, if_pos hj0]
    exact Real.exp_pos _
  have hc : Real.exp (-μ) ≠ 0 := (Real.exp_pos _).ne'
  simp only [hp, hE, ← coe_sum, ← Finset.sum_mul]
  rw [show (1 : EReal) = ((1 : ℝ) : EReal) from rfl, div_real 1 _ hD.ne', one_mul, sum_mul_real _ _ _ (inv_nonneg.mpr hD.le)]
  refine Finset.sum_congr rfl fun j _ => ?_
  rw [div_real _ _ (mul_ne_zero hD.ne' hc), mul_comm (e j : EReal) (V j), mul_assoc (V j), ← EReal.coe_mul]
  congr 2
  field_simp

/-- A sum over all keys is the sum over the devices of the sums over each device's own. -/
theorem sum_keys (f : Fin 1024 → EReal) :
    ∑ J : Fin 1024, f J = ∑ c : Fin 4, ∑ j : Fin 256, f ⟨256 * c.val + j.val, by omega⟩ := by
  rw [← Fintype.sum_prod_type' (f := fun (c : Fin 4) (j : Fin 256) => f ⟨256 * c.val + j.val, by omega⟩)]
  refine (Fintype.sum_equiv (finProdFinEquiv (m := 4) (n := 256)) _ _ fun x => ?_).symm
  refine congrArg f (Fin.ext ?_)
  simp [finProdFinEquiv, add_comm]

/-- Scaling the queries or scaling the products is the same of reals. -/
theorem scale_dot {D E : Type} [Fintype D] [Fintype E] (x : D → ℝ) (w : D → E → ℝ) (k : E → ℝ) (r : ℝ) :
    (∑ e, ((∑ d, (x d : EReal) * (w d e : EReal)) * (r : EReal)) * (k e : EReal) = (((∑ e, (∑ d, x d * w d e) * k e) * r : ℝ) : EReal))
      ∧ (∑ e, (∑ d, (x d : EReal) * (w d e : EReal)) * (k e : EReal)) * (r : EReal) = (((∑ e, (∑ d, x d * w d e) * k e) * r : ℝ) : EReal) := by
  constructor
  · simp only [← EReal.coe_mul, ← coe_sum]
    congr 1
    rw [Finset.sum_mul]
    exact Finset.sum_congr rfl fun e _ => by ring
  · simp only [← EReal.coe_mul, ← coe_sum]

end Cert.Butterfly

end
-- ==== Proof.Finite.lean ====
/-
# What the precondition says

The rows, the projection and the keys are finite: every entry of each is a real.
-/
module

public import proofs.«01_k».proof.Pre_finite_scores_KernelIdeal
public import proofs.«01_k».proof.Pre_finite_scores_ReferenceIdeal
public import Idealize.ShloMosaic.Lib.Pointwise
public import Idealize.ShloMosaic.Lib.ReduceAll

@[expose] public section

noncomputable section

namespace Cert.Butterfly

open Idealize.ShloMosaic

/-- The shape relations the precondition takes, on a device's blocks and on the whole arrays. -/
theorem pre_facts : Cert.Pre_finite_scores_KernelIdeal.Facts where
  bcast_S_S512x512 := by decide
  reducesTo_S512x512_S_d0_1 := by decide
  h_S_ := by decide
  bcast_S_S512x256 := by decide
  reducesTo_S512x256_S_d0_1 := by decide
  bcast_S_S2x256x256 := by decide
  reducesTo_S2x256x256_S_d0_1_2 := by decide
/-- The same on the whole arrays. -/
theorem pre_facts_reference : Cert.Pre_finite_scores_ReferenceIdeal.Facts where
  bcast_S_S512x512 := by decide
  reducesTo_S512x512_S_d0_1 := by decide
  h_S_ := by decide
  bcast_S_S512x256 := by decide
  reducesTo_S512x256_S_d0_1 := by decide
  bcast_S_S2x1024x256 := by decide
  reducesTo_S2x1024x256_S_d0_1_2 := by decide

/-- What is less than infinity in absolute value is a real. -/
theorem real_of_abs_lt {x : EReal} (h : max x (-x) < ⊤) : ∃ r : ℝ, x = (r : EReal) := by
  rw [max_lt_iff] at h
  refine ⟨x.toReal, (EReal.coe_toReal h.1.ne ?_).symm⟩
  rintro rfl
  exact absurd h.2 (by simp)

/-- The word the precondition compares with is infinity. -/
theorem inf_bf16 : Ideal.ofBits .bf16 0x7F80#16 = ⊤ := by
  simp [Ideal.ofBits, Ideal.ieee]

/-- A set comparison bit says that the entry is a real. -/
theorem real_of_olt {x : EReal} (h : BitVec.ofBool (decide (max x (-x) < Ideal.ofBits .bf16 0x7F80#16)) = 1#1) : ∃ r : ℝ, x = (r : EReal) := by
  rw [inf_bf16] at h
  refine real_of_abs_lt ?_
  by_contra hn
  rw [decide_eq_false hn] at h
  exact absurd h (by decide)

attribute [local instance] pre_facts in
open Cert.Pre_finite_scores_KernelIdeal in
/-- The precondition makes every entry of the rows, the projection and the keys a real. -/
theorem pre_real (X : FVec Ideal S512x512 .bf16) (W : FVec Ideal S512x256 .bf16) (K V : FVec Ideal S2x256x256 .bf16) (O : FVec Ideal S256x512 .bf16)
    (h : fn (F := Ideal) X W K V O = fun _ => 1#1) :
    (∀ i, ∃ r : ℝ, X i = (r : EReal)) ∧ (∀ i, ∃ r : ℝ, W i = (r : EReal)) ∧ ∀ i, ∃ r : ℝ, K i = (r : EReal) := by
  have h0 : IntOp.andi (IntOp.andi _ _) _ = 1#1 := congrFun h ix0
  rw [IntOp.andi_eq_one, IntOp.andi_eq_one] at h0
  obtain ⟨⟨hX, hW⟩, hK⟩ := h0
  haveI : Subsingleton S_.Idx := ⟨fun a b => funext fun k => k.elim0⟩
  exact ⟨fun i => real_of_olt (Host.reduce_andi_all _ _ _ _ _ hX i), fun i => real_of_olt (Host.reduce_andi_all _ _ _ _ _ hW i),
    fun i => real_of_olt (Host.reduce_andi_all _ _ _ _ _ hK i)⟩

end Cert.Butterfly

end
-- ==== Proof.Value.lean ====
/-
# The kernel's result is the reference's

With finite rows, projection and keys, every device of the kernel ends with the reference's result.
-/
module

public import proofs.«01_k».proof.Proof.KVal
public import proofs.«01_k».proof.Proof.RVal
public import proofs.«01_k».proof.Proof.Mask
public import proofs.«01_k».proof.Proof.Model
public import proofs.«01_k».proof.Proof.Finite
public import proofs.«01_k».proof.Proof.Frames
public import Idealize.ShloMosaic.Lib.Routing.OpsOrder

@[expose] public section

noncomputable section

namespace Cert.Butterfly

open Idealize.ShloMosaic Idealize.SL.Sem

/-- The scale is a real. -/
theorem eighth_real : ∃ r : ℝ, eighth = (r : EReal) :=
  ⟨(1 / 8 : ℝ), by simp [eighth, Ideal.ofBits, Ideal.ieee, -EReal.coe_mul]; norm_num⟩

/-- Every query sees the first key. -/
theorem keep_one (i : Fin 256) : Ref.keep (ix1 i) = 1#1 := by
  rw [Ref.keep_apply, Routing.fold_ori]
  refine ⟨0, Finset.mem_univ _, ?_⟩
  rw [mask_apply]
  simp [sees]

section Same

variable (X : FVec Ideal Cert.ReferenceIdeal.S512x512 .bf16) (W : FVec Ideal Cert.ReferenceIdeal.S512x256 .bf16)
  (K V : FVec Ideal Cert.ReferenceIdeal.S2x1024x256 .bf16) (O : FVec Ideal Cert.ReferenceIdeal.S256x512 .bf16)
  (Kc Vc : Fin 4 → FVec Ideal Cert.KernelIdeal.S2x256x256 .bf16)
  (hK : ∀ (c : Fin 4) (b : Fin 2) (j k : Fin 256), Kc c (ix3 b j k) = K (ix3 b ⟨256 * c.val + j.val, by omega⟩ k))
  (hV : ∀ (c : Fin 4) (b : Fin 2) (j k : Fin 256), Vc c (ix3 b j k) = V (ix3 b ⟨256 * c.val + j.val, by omega⟩ k))

/-- What the devices hold: the same arrays, each its own keys and values. -/
abbrev held : Dev Cert.KernelIdeal.nD → Blk Ideal := fun c => ⟨X, W, Kc c, Vc c, O⟩

variable (x : Cert.ReferenceIdeal.S512x512.Idx → ℝ) (w : Cert.ReferenceIdeal.S512x256.Idx → ℝ) (kr : Cert.ReferenceIdeal.S2x1024x256.Idx → ℝ) (r : ℝ)
  (hx : ∀ i, X i = (x i : EReal)) (hw : ∀ i, W i = (w i : EReal)) (hk : ∀ i, K i = (kr i : EReal)) (hr : eighth = (r : EReal))

/-- A query's score against a key, over the reals. -/
def score (b : Fin 2) (h : Fin 4) (i : Fin 256) (J : Fin 1024) : ℝ :=
  (∑ e : Fin 64, (∑ d : Fin 512, x (ix2 ⟨256 * b.val + i.val, by omega⟩ d) * w (ix2 d (lane h e))) * kr (ix3 b J (lane h e))) * r

include hK hx hw hk hr in
/-- The kernel's weight before the division. -/
theorem pw_real (c : Fin 4) (b : Fin 2) (h : Fin 4) (i j : Fin 256) :
    pw (held X W O Kc Vc) c b h i j
      = Scalar.select (Ref.mask (ix2 i ⟨256 * c.val + j.val, by omega⟩))
          (Ideal.exp (score x w kr r b h i ⟨256 * c.val + j.val, by omega⟩ : EReal)) 0 := by
  unfold pw
  rw [probs_apply, maskAt_apply, mask_apply]
  congr 2
  unfold score
  rw [← (scale_dot (fun d : Fin 512 => x (ix2 ⟨256 * b.val + i.val, by omega⟩ d)) (fun d (e : Fin 64) => w (ix2 d (lane h e)))
    (fun e => kr (ix3 b ⟨256 * c.val + j.val, by omega⟩ (lane h e))) r).1]
  refine Finset.sum_congr rfl fun e _ => ?_
  rw [qRows_apply, kRows_apply, hr]
  change (∑ d, X _ * W _) * _ * Kc c _ = _
  rw [hK, hk]
  simp only [hx, hw]

include hx hw hk hr in
/-- The reference's score. -/
theorem scores_real (b : Fin 2) (h : Fin 4) (i : Fin 256) (J : Fin 1024) :
    Ref.scores X W K (ix4 b h i J) = Scalar.select (Ref.mask (ix2 i J)) (score x w kr r b h i J : EReal) ⊥ := by
  rw [Ref.scores_apply]
  congr 1
  unfold score
  rw [← (scale_dot (fun d : Fin 512 => x (ix2 ⟨256 * b.val + i.val, by omega⟩ d)) (fun d (e : Fin 64) => w (ix2 d (lane h e)))
    (fun e => kr (ix3 b J (lane h e))) r).2, ← hr]
  refine congrArg (fun z : EReal => z * eighth) (Finset.sum_congr rfl fun e _ => ?_)
  rw [Ref.q_apply, Ref.heads_apply, hk]
  simp only [hx, hw]

include hK hV hx hw hk hr in
/-- The contexts agree. -/
theorem ctx_same (c : Dev Cert.KernelIdeal.nD) (b : Fin 2) (i k : Fin 256) :
    ctxRows (tot2 (held X W O Kc Vc) c b) (ix2 i k) = Ref.ctx V (Ref.weights (Ref.expo (Ref.scores X W K))) (ix3 b i k) := by
  have hvis : ∃ J : Fin 1024, Ref.mask (ix2 i J) = 1#1 := ⟨0, by rw [mask_apply]; simp [sees]⟩
  have hs := softmax_div (fun J : Fin 1024 => Ref.mask (ix2 i J)) (fun J => score x w kr r b ⟨k.val / 64, by omega⟩ i J)
    (fun J => V (ix3 b J k)) hvis
  have hR := Ref.ctx_apply V (Ref.weights (Ref.expo (Ref.scores X W K))) b i k
  simp only [Ref.weights_apply _ _ _ _ _ (keep_one i), Ref.expo_apply, scores_real X W K x w kr r hx hw hk hr] at hR
  rw [hR.trans hs, ctxRows_apply, sum_keys, sum_keys]
  have hp := fun c' j => pw_real X W K O Kc Vc hK x w kr r hx hw hk hr c' b ⟨k.val / 64, by omega⟩ i j
  simp only [hp]
  congr 1
  refine Finset.sum_congr rfl fun c' _ => Finset.sum_congr rfl fun j _ => ?_
  change _ * Vc c' _ = _
  rw [hV]

include hK hV hx hw hk hr in
/-- The results agree. -/
theorem result_same (c : Dev Cert.KernelIdeal.nD) : outAll (held X W O Kc Vc) c = Ref.out X W K V O := by
  funext y
  obtain ⟨R, n, rfl⟩ : ∃ R n : Fin 512, y = ix2 R n := ⟨y 0, y 1, eq_ix2 y⟩
  rw [outAll_apply, Ref.out_apply]
  refine Finset.sum_congr rfl fun k _ => ?_
  rw [ctx_same X W K V O Kc Vc hK hV x w kr r hx hw hk hr]

end Same

/-- A device's block of the keys or the values, by coordinates. -/
theorem block_apply (hT : Layout.Tiles ⟨3, ![2, 256, 256]⟩ ⟨3, ![2, 1024, 256]⟩ 1 4) (c : Fin 4) (M : FVec Ideal Cert.ReferenceIdeal.S2x1024x256 .bf16)
    (b : Fin 2) (j k : Fin 256) :
    Layout.block ⟨3, ![2, 256, 256]⟩ ⟨3, ![2, 1024, 256]⟩ 1 4 c M hT (ix3 b j k) = M (ix3 b ⟨256 * c.val + j.val, by omega⟩ k) := by
  rw [Layout.block_apply]
  refine congrArg M (funext fun a => Fin.ext ?_)
  rw [Layout.Tiles.idx_val]
  fin_cases a
  · rfl
  · change c.val * 256 + j.val = 256 * c.val + j.val
    omega
  · rfl

/-- The devices' results, from their blocks of the whole arrays. -/
theorem outAll_same (hT : Layout.Tiles ⟨3, ![2, 256, 256]⟩ ⟨3, ![2, 1024, 256]⟩ 1 4)
    (X : FVec Ideal Cert.ReferenceIdeal.S512x512 .bf16) (W : FVec Ideal Cert.ReferenceIdeal.S512x256 .bf16)
    (K V : FVec Ideal Cert.ReferenceIdeal.S2x1024x256 .bf16) (O : FVec Ideal Cert.ReferenceIdeal.S256x512 .bf16)
    (A : Dev Cert.KernelIdeal.nD → Blk Ideal)
    (hA : ∀ c : Fin 4, A c = ⟨X, W, Layout.block ⟨3, ![2, 256, 256]⟩ ⟨3, ![2, 1024, 256]⟩ 1 4 c K hT,
      Layout.block ⟨3, ![2, 256, 256]⟩ ⟨3, ![2, 1024, 256]⟩ 1 4 c V hT, O⟩)
    (hX : ∀ i, ∃ t : ℝ, X i = (t : EReal)) (hW : ∀ i, ∃ t : ℝ, W i = (t : EReal))
    (hK : ∀ (c : Fin 4) (i : Cert.KernelIdeal.S2x256x256.Idx), ∃ t : ℝ,
      Layout.block ⟨3, ![2, 256, 256]⟩ ⟨3, ![2, 1024, 256]⟩ 1 4 c K hT i = (t : EReal))
    (c : Dev Cert.KernelIdeal.nD) : outAll A c = Ref.out X W K V O := by
  obtain ⟨r, hr⟩ := eighth_real
  have hKr : ∀ i, ∃ t : ℝ, K i = (t : EReal) := by
    intro i
    obtain ⟨b, J, k, rfl⟩ : ∃ (b : Fin 2) (J : Fin 1024) (k : Fin 256), i = ix3 b J k := ⟨i 0, i 1, i 2, eq_ix3 i⟩
    obtain ⟨t, ht⟩ := hK ⟨J.val / 256, by omega⟩ (ix3 b ⟨J.val % 256, by omega⟩ k)
    rw [block_apply] at ht
    have hJ : ∀ p, (⟨256 * (J.val / 256) + J.val % 256, p⟩ : Fin 1024) = J := fun p => Fin.ext (Nat.div_add_mod _ _)
    exact ⟨t, (congrArg (fun z => K (ix3 b z k)) (hJ _)).symm.trans ht⟩
  choose x hx using hX
  choose w hw using hW
  choose kr hk using hKr
  have e : A = held X W O (fun c => Layout.block ⟨3, ![2, 256, 256]⟩ ⟨3, ![2, 1024, 256]⟩ 1 4 c K hT)
      (fun c => Layout.block ⟨3, ![2, 256, 256]⟩ ⟨3, ![2, 1024, 256]⟩ 1 4 c V hT) := funext hA
  rw [e]
  exact result_same X W K V O _ _ (fun c b j k => block_apply hT c K b j k) (fun c b j k => block_apply hT c V b j k) x w kr r hx hw hk hr c

end Cert.Butterfly

namespace Cert.Proof

open Idealize.ShloMosaic Idealize.SL.Sem Cert.Butterfly

attribute [local instance] pre_facts

/-- The idealized kernel and the idealized reference end with one result. -/
theorem algebraic : Cert.algebraic_KernelIdeal_ReferenceIdeal_pre_finite_scores_KernelIdeal := by
  intro m g m' g' hpre hargs
  have hpr := fun c => pre_real _ _ _ _ _ (hpre c)
  refine ⟨Cert.ReferenceIdeal.Value.res_main_v58 m' 0, ?_, ?_⟩
  · refine (θ_run Cert.KernelIdeal.defs _ _).mono (fun _ h c => ⟨(h.1 c).1.trans ?_, (h.1 c).2⟩) (run_frame (F := Ideal) m g)
    refine Eq.trans ?_ (Ref.res_eq m' 0).symm
    refine outAll_same (by decide) _ _ _ _ _ (blk m g) ?_ ?_ ?_ ?_ c
    · intro c
      rw [blk_eq]
      obtain ⟨b0, b1, b2, b3, b4⟩ := hargs c
      rw [b0, b1, b2, b3, b4]
    · intro i
      rw [← (hargs 0).1]
      exact (hpr 0).1 i
    · intro i
      rw [← (hargs 0).2.1]
      exact (hpr 0).2.1 i
    · intro c i
      rw [← (hargs c).2.2.1]
      exact (hpr c).2.2 i
  · exact (θ_run Cert.ReferenceIdeal.defs _ _).mono (fun r h => h 0) (Cert.ReferenceIdeal.Value.run (F := Ideal) m' g')

end Cert.Proof

end
-- ==== Proof.lean ====
/-
# The claims
-/
module

public import proofs.«01_k».proof.Defs
public import proofs.«01_k».proof.Proof.Gen.ReferenceIdeal.Run
public import proofs.«01_k».proof.Proof.Frames
public import proofs.«01_k».proof.Proof.Value

@[expose] public section

noncomputable section

namespace Cert.Proof

/-- All the claims: the frames, that idealizing changes nothing, and that kernel and reference end with one result. -/
theorem claim : Cert.Claim :=
  ⟨Cert.Kernel.Gen.facts, Cert.KernelIdeal.Gen.facts, Cert.ReferenceIdeal.Gen.facts, Cert.Butterfly.pre_facts, Cert.Butterfly.pre_facts_reference,
    frame_kernel, frame_ideal, fun m g _ => frame_ideal m g trivial, frame_reference, fun m g _ => frame_reference m g trivial, trivial, algebraic⟩

end Cert.Proof

end
